-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 4096, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨3, ![2, 128, 512]⟩ ⟨3, ![2, 4096, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x128x64 : Shape := ⟨4, ![2, 128, 128, 64]⟩
abbrev S256x512 : Shape := ⟨2, ![256, 512]⟩
abbrev S32x512x256 : Shape := ⟨3, ![32, 512, 256]⟩
abbrev S32x256x512 : Shape := ⟨3, ![32, 256, 512]⟩
abbrev S16 : Shape := ⟨1, ![16]⟩
abbrev S15 : Shape := ⟨1, ![15]⟩
abbrev S128x128 : Shape := ⟨2, ![128, 128]⟩
abbrev S128 : Shape := ⟨1, ![128]⟩
abbrev S128x1 : Shape := ⟨2, ![128, 1]⟩
abbrev S1x512x256 : Shape := ⟨3, ![1, 512, 256]⟩
abbrev S1x256x512 : Shape := ⟨3, ![1, 256, 512]⟩
abbrev S_ : Shape := ⟨0, ![]⟩
abbrev S1 : Shape := ⟨1, ![1]⟩
abbrev S256x256 : Shape := ⟨2, ![256, 256]⟩
abbrev S1x4x128x64 : Shape := ⟨4, ![1, 4, 128, 64]⟩
abbrev S4x128x64 : Shape := ⟨3, ![4, 128, 64]⟩
abbrev S128x64 : Shape := ⟨2, ![128, 64]⟩
abbrev S1x128x64 : Shape := ⟨3, ![1, 128, 64]⟩
abbrev S128x256 : Shape := ⟨2, ![128, 256]⟩

abbrev nBuf : Space → Nat
  | .hbm => 8
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x128x64, .bf16⟩
  | .hbm, ⟨3, _⟩ => ⟨S2x128x128x64, .bf16⟩
  | .hbm, ⟨4, _⟩ => ⟨S256x512, .bf16⟩
  | .hbm, ⟨5, _⟩ => ⟨S2x128x128x64, .bf16⟩
  | .hbm, ⟨6, _⟩ => ⟨S2x128x128x64, .bf16⟩
  | .hbm, ⟨7, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S256x512, .bf16⟩
  | .local _ .vmem, ⟨3, _⟩ => ⟨S2x128x128x64, .bf16⟩
  | .local _ .vmem, ⟨4, _⟩ => ⟨S2x128x128x64, .bf16⟩
  | .local _ .vmem, ⟨5, _⟩ => ⟨S2x128x512, .f32⟩
  | .local _ .vmem, ⟨6, _⟩ => ⟨S32x512x256, .bf16⟩
  | .local _ .vmem, ⟨7, _⟩ => ⟨S32x256x512, .bf16⟩
  | _, _ => ⟨S2x128x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v125 : Index := Scalar.indexCast v2
  let c0_43 : Index := 0#32
  let c0_44 : Index := 0#32
  ![v125.toNat, 0, 0]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v131 : Index := Scalar.indexCast v2
  let c0_47 : Index := 0#32
  let c0_48 : Index := 0#32
  ![v131.toNat, 0, 0]
def k0_dev1 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_54 : BitVec 32 := 1#32
  let v138 : BitVec 32 := Scalar.muli v14 c1_i32_54
  let v139 : BitVec 32 := Scalar.addi c0_i32_55 v138
  v139.toNat
def k0_dev2 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_57 : BitVec 32 := 1#32
  let v140 : BitVec 32 := Scalar.muli v25 c1_i32_57
  let v141 : BitVec 32 := Scalar.addi c0_i32_58 v140
  v141.toNat
def k0_off3 (d0 : Dev nD) (c0_i32_60 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v142 : BitVec 32 := Scalar.subi v2 c0_i32_60
  let c32_i32_61 : BitVec 32 := 32#32
  let v143 : BitVec 32 := Scalar.addi v142 c32_i32_61
  let c32_i32_62 : BitVec 32 := 32#32
  let c0_i32_63 : BitVec 32 := 0#32
  let v144 : BitVec 1 := Scalar.cmpi .eq c32_i32_62 c0_i32_63
  let c1_i32_64 : BitVec 32 := 1#32
  let v145 : BitVec 32 := Scalar.select v144 c1_i32_64 c32_i32_62
  let v146 : BitVec 32 := Scalar.remsi v143 v145
  let c0_i32_66 : BitVec 32 := 0#32
  let v148 : BitVec 1 := Scalar.cmpi .slt v146 c0_i32_66
  let c0_i32_67 : BitVec 32 := 0#32
  let v149 : BitVec 1 := Scalar.cmpi .slt v145 c0_i32_67
  let v150 : BitVec 1 := Scalar.xori v148 v149
  let c0_i32_65 : BitVec 32 := 0#32
  let v147 : BitVec 1 := Scalar.cmpi .ne v146 c0_i32_65
  let v151 : BitVec 1 := Scalar.andi v150 v147
  let v152 : BitVec 32 := Scalar.addi v146 v145
  let v153 : BitVec 32 := Scalar.select v151 v152 v146
  let c0_i32_79 : BitVec 32 := 0#32
  let c0_i32_80 : BitVec 32 := 0#32
  ![v153.toNat, 0, 0]
def k0_dev3 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_77 : BitVec 32 := 1#32
  let v165 : BitVec 32 := Scalar.muli v25 c1_i32_77
  let v166 : BitVec 32 := Scalar.addi c0_i32_78 v165
  v166.toNat
def k0_off4 (d0 : Dev nD) (c0_i32_60 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v142 : BitVec 32 := Scalar.subi v2 c0_i32_60
  let c32_i32_61 : BitVec 32 := 32#32
  let v143 : BitVec 32 := Scalar.addi v142 c32_i32_61
  let c32_i32_62 : BitVec 32 := 32#32
  let c0_i32_63 : BitVec 32 := 0#32
  let v144 : BitVec 1 := Scalar.cmpi .eq c32_i32_62 c0_i32_63
  let c1_i32_64 : BitVec 32 := 1#32
  let v145 : BitVec 32 := Scalar.select v144 c1_i32_64 c32_i32_62
  let v146 : BitVec 32 := Scalar.remsi v143 v145
  let c0_i32_66 : BitVec 32 := 0#32
  let v148 : BitVec 1 := Scalar.cmpi .slt v146 c0_i32_66
  let c0_i32_67 : BitVec 32 := 0#32
  let v149 : BitVec 1 := Scalar.cmpi .slt v145 c0_i32_67
  let v150 : BitVec 1 := Scalar.xori v148 v149
  let c0_i32_65 : BitVec 32 := 0#32
  let v147 : BitVec 1 := Scalar.cmpi .ne v146 c0_i32_65
  let v151 : BitVec 1 := Scalar.andi v150 v147
  let v152 : BitVec 32 := Scalar.addi v146 v145
  let v153 : BitVec 32 := Scalar.select v151 v152 v146
  let c0_i32_87 : BitVec 32 := 0#32
  let c0_i32_88 : BitVec 32 := 0#32
  ![v153.toNat, 0, 0]
def k0_dev4 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_85 : BitVec 32 := 1#32
  let v175 : BitVec 32 := Scalar.muli v25 c1_i32_85
  let v176 : BitVec 32 := Scalar.addi c0_i32_86 v175
  v176.toNat
def k0_off5 (d0 : Dev nD) (c0_i32_68 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v154 : BitVec 32 := Scalar.addi v2 c0_i32_68
  let c32_i32_69 : BitVec 32 := 32#32
  let c0_i32_70 : BitVec 32 := 0#32
  let v155 : BitVec 1 := Scalar.cmpi .eq c32_i32_69 c0_i32_70
  let c1_i32_71 : BitVec 32 := 1#32
  let v156 : BitVec 32 := Scalar.select v155 c1_i32_71 c32_i32_69
  let v157 : BitVec 32 := Scalar.remsi v154 v156
  let c0_i32_73 : BitVec 32 := 0#32
  let v159 : BitVec 1 := Scalar.cmpi .slt v157 c0_i32_73
  let c0_i32_74 : BitVec 32 := 0#32
  let v160 : BitVec 1 := Scalar.cmpi .slt v156 c0_i32_74
  let v161 : BitVec 1 := Scalar.xori v159 v160
  let c0_i32_72 : BitVec 32 := 0#32
  let v158 : BitVec 1 := Scalar.cmpi .ne v157 c0_i32_72
  let v162 : BitVec 1 := Scalar.andi v161 v158
  let v163 : BitVec 32 := Scalar.addi v157 v156
  let v164 : BitVec 32 := Scalar.select v162 v163 v157
  let c0_i32_95 : BitVec 32 := 0#32
  let c0_i32_96 : BitVec 32 := 0#32
  ![v164.toNat, 0, 0]
def k0_dev5 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_93 : BitVec 32 := 1#32
  let v185 : BitVec 32 := Scalar.muli v14 c1_i32_93
  let v186 : BitVec 32 := Scalar.addi c0_i32_94 v185
  v186.toNat
def k0_off6 (d0 : Dev nD) (c0_i32_68 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v154 : BitVec 32 := Scalar.addi v2 c0_i32_68
  let c32_i32_69 : BitVec 32 := 32#32
  let c0_i32_70 : BitVec 32 := 0#32
  let v155 : BitVec 1 := Scalar.cmpi .eq c32_i32_69 c0_i32_70
  let c1_i32_71 : BitVec 32 := 1#32
  let v156 : BitVec 32 := Scalar.select v155 c1_i32_71 c32_i32_69
  let v157 : BitVec 32 := Scalar.remsi v154 v156
  let c0_i32_73 : BitVec 32 := 0#32
  let v159 : BitVec 1 := Scalar.cmpi .slt v157 c0_i32_73
  let c0_i32_74 : BitVec 32 := 0#32
  let v160 : BitVec 1 := Scalar.cmpi .slt v156 c0_i32_74
  let v161 : BitVec 1 := Scalar.xori v159 v160
  let c0_i32_72 : BitVec 32 := 0#32
  let v158 : BitVec 1 := Scalar.cmpi .ne v157 c0_i32_72
  let v162 : BitVec 1 := Scalar.andi v161 v158
  let v163 : BitVec 32 := Scalar.addi v157 v156
  let v164 : BitVec 32 := Scalar.select v162 v163 v157
  let c0_i32_103 : BitVec 32 := 0#32
  let c0_i32_104 : BitVec 32 := 0#32
  ![v164.toNat, 0, 0]
def k0_dev6 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_101 : BitVec 32 := 1#32
  let v195 : BitVec 32 := Scalar.muli v14 c1_i32_101
  let v196 : BitVec 32 := Scalar.addi c0_i32_102 v195
  v196.toNat
def k0_off7 (d0 : Dev nD) (c0_i32_60 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v142 : BitVec 32 := Scalar.subi v2 c0_i32_60
  let c32_i32_61 : BitVec 32 := 32#32
  let v143 : BitVec 32 := Scalar.addi v142 c32_i32_61
  let c32_i32_62 : BitVec 32 := 32#32
  let c0_i32_63 : BitVec 32 := 0#32
  let v144 : BitVec 1 := Scalar.cmpi .eq c32_i32_62 c0_i32_63
  let c1_i32_64 : BitVec 32 := 1#32
  let v145 : BitVec 32 := Scalar.select v144 c1_i32_64 c32_i32_62
  let v146 : BitVec 32 := Scalar.remsi v143 v145
  let c0_i32_66 : BitVec 32 := 0#32
  let v148 : BitVec 1 := Scalar.cmpi .slt v146 c0_i32_66
  let c0_i32_67 : BitVec 32 := 0#32
  let v149 : BitVec 1 := Scalar.cmpi .slt v145 c0_i32_67
  let v150 : BitVec 1 := Scalar.xori v148 v149
  let c0_i32_65 : BitVec 32 := 0#32
  let v147 : BitVec 1 := Scalar.cmpi .ne v146 c0_i32_65
  let v151 : BitVec 1 := Scalar.andi v150 v147
  let v152 : BitVec 32 := Scalar.addi v146 v145
  let v153 : BitVec 32 := Scalar.select v151 v152 v146
  let v205 : Index := Scalar.indexCast v153
  let c0_107 : Index := 0#32
  let c0_108 : Index := 0#32
  ![v205.toNat, 0, 0]
def k0_off8 (d0 : Dev nD) (c0_i32_60 : BitVec 32) : Fin 4 → Nat :=
  let c0_111 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v142 : BitVec 32 := Scalar.subi v2 c0_i32_60
  let c32_i32_61 : BitVec 32 := 32#32
  let v143 : BitVec 32 := Scalar.addi v142 c32_i32_61
  let c32_i32_62 : BitVec 32 := 32#32
  let c0_i32_63 : BitVec 32 := 0#32
  let v144 : BitVec 1 := Scalar.cmpi .eq c32_i32_62 c0_i32_63
  let c1_i32_64 : BitVec 32 := 1#32
  let v145 : BitVec 32 := Scalar.select v144 c1_i32_64 c32_i32_62
  let v146 : BitVec 32 := Scalar.remsi v143 v145
  let c0_i32_66 : BitVec 32 := 0#32
  let v148 : BitVec 1 := Scalar.cmpi .slt v146 c0_i32_66
  let c0_i32_67 : BitVec 32 := 0#32
  let v149 : BitVec 1 := Scalar.cmpi .slt v145 c0_i32_67
  let v150 : BitVec 1 := Scalar.xori v148 v149
  let c0_i32_65 : BitVec 32 := 0#32
  let v147 : BitVec 1 := Scalar.cmpi .ne v146 c0_i32_65
  let v151 : BitVec 1 := Scalar.andi v150 v147
  let v152 : BitVec 32 := Scalar.addi v146 v145
  let v153 : BitVec 32 := Scalar.select v151 v152 v146
  let c4_i32_110 : BitVec 32 := 4#32
  let v209 : BitVec 32 := Scalar.muli v153 c4_i32_110
  let v210 : Index := Scalar.indexCast v209
  let c0_112 : Index := 0#32
  let c0_113 : Index := 0#32
  ![0, v210.toNat, 0, 0]
def k0_off9 (d0 : Dev nD) (c0_i32_60 : BitVec 32) : Fin 4 → Nat :=
  let c1 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v142 : BitVec 32 := Scalar.subi v2 c0_i32_60
  let c32_i32_61 : BitVec 32 := 32#32
  let v143 : BitVec 32 := Scalar.addi v142 c32_i32_61
  let c32_i32_62 : BitVec 32 := 32#32
  let c0_i32_63 : BitVec 32 := 0#32
  let v144 : BitVec 1 := Scalar.cmpi .eq c32_i32_62 c0_i32_63
  let c1_i32_64 : BitVec 32 := 1#32
  let v145 : BitVec 32 := Scalar.select v144 c1_i32_64 c32_i32_62
  let v146 : BitVec 32 := Scalar.remsi v143 v145
  let c0_i32_66 : BitVec 32 := 0#32
  let v148 : BitVec 1 := Scalar.cmpi .slt v146 c0_i32_66
  let c0_i32_67 : BitVec 32 := 0#32
  let v149 : BitVec 1 := Scalar.cmpi .slt v145 c0_i32_67
  let v150 : BitVec 1 := Scalar.xori v148 v149
  let c0_i32_65 : BitVec 32 := 0#32
  let v147 : BitVec 1 := Scalar.cmpi .ne v146 c0_i32_65
  let v151 : BitVec 1 := Scalar.andi v150 v147
  let v152 : BitVec 32 := Scalar.addi v146 v145
  let v153 : BitVec 32 := Scalar.select v151 v152 v146
  let c4_i32_114 : BitVec 32 := 4#32
  let v213 : BitVec 32 := Scalar.muli v153 c4_i32_114
  let v214 : Index := Scalar.indexCast v213
  let c0_115 : Index := 0#32
  let c0_116 : Index := 0#32
  ![1, v214.toNat, 0, 0]
def k0_off10 (d0 : Dev nD) (c0_i32_60 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v142 : BitVec 32 := Scalar.subi v2 c0_i32_60
  let c32_i32_61 : BitVec 32 := 32#32
  let v143 : BitVec 32 := Scalar.addi v142 c32_i32_61
  let c32_i32_62 : BitVec 32 := 32#32
  let c0_i32_63 : BitVec 32 := 0#32
  let v144 : BitVec 1 := Scalar.cmpi .eq c32_i32_62 c0_i32_63
  let c1_i32_64 : BitVec 32 := 1#32
  let v145 : BitVec 32 := Scalar.select v144 c1_i32_64 c32_i32_62
  let v146 : BitVec 32 := Scalar.remsi v143 v145
  let c0_i32_66 : BitVec 32 := 0#32
  let v148 : BitVec 1 := Scalar.cmpi .slt v146 c0_i32_66
  let c0_i32_67 : BitVec 32 := 0#32
  let v149 : BitVec 1 := Scalar.cmpi .slt v145 c0_i32_67
  let v150 : BitVec 1 := Scalar.xori v148 v149
  let c0_i32_65 : BitVec 32 := 0#32
  let v147 : BitVec 1 := Scalar.cmpi .ne v146 c0_i32_65
  let v151 : BitVec 1 := Scalar.andi v150 v147
  let v152 : BitVec 32 := Scalar.addi v146 v145
  let v153 : BitVec 32 := Scalar.select v151 v152 v146
  let v453 : Index := Scalar.indexCast v153
  let c0_189 : Index := 0#32
  let c0_190 : Index := 0#32
  ![v453.toNat, 0, 0]
def k0_dev7 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_275 : BitVec 32 := 1#32
  let v541 : BitVec 32 := Scalar.muli v25 c1_i32_275
  let v542 : BitVec 32 := Scalar.addi c0_i32_276 v541
  v542.toNat
def k0_dev8 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_283 : BitVec 32 := 1#32
  let v551 : BitVec 32 := Scalar.muli v25 c1_i32_283
  let v552 : BitVec 32 := Scalar.addi c0_i32_284 v551
  v552.toNat
def k0_dev9 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_291 : BitVec 32 := 1#32
  let v561 : BitVec 32 := Scalar.muli v14 c1_i32_291
  let v562 : BitVec 32 := Scalar.addi c0_i32_292 v561
  v562.toNat
def k0_dev10 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_299 : BitVec 32 := 1#32
  let v571 : BitVec 32 := Scalar.muli v14 c1_i32_299
  let v572 : BitVec 32 := Scalar.addi c0_i32_300 v571
  v572.toNat
def k0_off11 (d0 : Dev nD) (c1_i32_206 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v474 : BitVec 32 := Scalar.addi v2 c1_i32_206
  let c32_i32_207 : BitVec 32 := 32#32
  let c0_i32_208 : BitVec 32 := 0#32
  let v475 : BitVec 1 := Scalar.cmpi .eq c32_i32_207 c0_i32_208
  let c1_i32_209 : BitVec 32 := 1#32
  let v476 : BitVec 32 := Scalar.select v475 c1_i32_209 c32_i32_207
  let v477 : BitVec 32 := Scalar.remsi v474 v476
  let c0_i32_211 : BitVec 32 := 0#32
  let v479 : BitVec 1 := Scalar.cmpi .slt v477 c0_i32_211
  let c0_i32_212 : BitVec 32 := 0#32
  let v480 : BitVec 1 := Scalar.cmpi .slt v476 c0_i32_212
  let v481 : BitVec 1 := Scalar.xori v479 v480
  let c0_i32_210 : BitVec 32 := 0#32
  let v478 : BitVec 1 := Scalar.cmpi .ne v477 c0_i32_210
  let v482 : BitVec 1 := Scalar.andi v481 v478
  let v483 : BitVec 32 := Scalar.addi v477 v476
  let v484 : BitVec 32 := Scalar.select v482 v483 v477
  let v838 : Index := Scalar.indexCast v484
  let c0_397 : Index := 0#32
  let c0_398 : Index := 0#32
  ![v838.toNat, 0, 0]
def k0_off12 (d0 : Dev nD) (c1_i32_206 : BitVec 32) : Fin 4 → Nat :=
  let c0_401 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v474 : BitVec 32 := Scalar.addi v2 c1_i32_206
  let c32_i32_207 : BitVec 32 := 32#32
  let c0_i32_208 : BitVec 32 := 0#32
  let v475 : BitVec 1 := Scalar.cmpi .eq c32_i32_207 c0_i32_208
  let c1_i32_209 : BitVec 32 := 1#32
  let v476 : BitVec 32 := Scalar.select v475 c1_i32_209 c32_i32_207
  let v477 : BitVec 32 := Scalar.remsi v474 v476
  let c0_i32_211 : BitVec 32 := 0#32
  let v479 : BitVec 1 := Scalar.cmpi .slt v477 c0_i32_211
  let c0_i32_212 : BitVec 32 := 0#32
  let v480 : BitVec 1 := Scalar.cmpi .slt v476 c0_i32_212
  let v481 : BitVec 1 := Scalar.xori v479 v480
  let c0_i32_210 : BitVec 32 := 0#32
  let v478 : BitVec 1 := Scalar.cmpi .ne v477 c0_i32_210
  let v482 : BitVec 1 := Scalar.andi v481 v478
  let v483 : BitVec 32 := Scalar.addi v477 v476
  let v484 : BitVec 32 := Scalar.select v482 v483 v477
  let c4_i32_400 : BitVec 32 := 4#32
  let v842 : BitVec 32 := Scalar.muli v484 c4_i32_400
  let v843 : Index := Scalar.indexCast v842
  let c0_402 : Index := 0#32
  let c0_403 : Index := 0#32
  ![0, v843.toNat, 0, 0]
def k0_off13 (d0 : Dev nD) (c1_i32_206 : BitVec 32) : Fin 4 → Nat :=
  let c1_405 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v474 : BitVec 32 := Scalar.addi v2 c1_i32_206
  let c32_i32_207 : BitVec 32 := 32#32
  let c0_i32_208 : BitVec 32 := 0#32
  let v475 : BitVec 1 := Scalar.cmpi .eq c32_i32_207 c0_i32_208
  let c1_i32_209 : BitVec 32 := 1#32
  let v476 : BitVec 32 := Scalar.select v475 c1_i32_209 c32_i32_207
  let v477 : BitVec 32 := Scalar.remsi v474 v476
  let c0_i32_211 : BitVec 32 := 0#32
  let v479 : BitVec 1 := Scalar.cmpi .slt v477 c0_i32_211
  let c0_i32_212 : BitVec 32 := 0#32
  let v480 : BitVec 1 := Scalar.cmpi .slt v476 c0_i32_212
  let v481 : BitVec 1 := Scalar.xori v479 v480
  let c0_i32_210 : BitVec 32 := 0#32
  let v478 : BitVec 1 := Scalar.cmpi .ne v477 c0_i32_210
  let v482 : BitVec 1 := Scalar.andi v481 v478
  let v483 : BitVec 32 := Scalar.addi v477 v476
  let v484 : BitVec 32 := Scalar.select v482 v483 v477
  let c4_i32_404 : BitVec 32 := 4#32
  let v846 : BitVec 32 := Scalar.muli v484 c4_i32_404
  let v847 : Index := Scalar.indexCast v846
  let c0_406 : Index := 0#32
  let c0_407 : Index := 0#32
  ![1, v847.toNat, 0, 0]
def k0_off14 (d0 : Dev nD) (c1_i32_206 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v474 : BitVec 32 := Scalar.addi v2 c1_i32_206
  let c32_i32_207 : BitVec 32 := 32#32
  let c0_i32_208 : BitVec 32 := 0#32
  let v475 : BitVec 1 := Scalar.cmpi .eq c32_i32_207 c0_i32_208
  let c1_i32_209 : BitVec 32 := 1#32
  let v476 : BitVec 32 := Scalar.select v475 c1_i32_209 c32_i32_207
  let v477 : BitVec 32 := Scalar.remsi v474 v476
  let c0_i32_211 : BitVec 32 := 0#32
  let v479 : BitVec 1 := Scalar.cmpi .slt v477 c0_i32_211
  let c0_i32_212 : BitVec 32 := 0#32
  let v480 : BitVec 1 := Scalar.cmpi .slt v476 c0_i32_212
  let v481 : BitVec 1 := Scalar.xori v479 v480
  let c0_i32_210 : BitVec 32 := 0#32
  let v478 : BitVec 1 := Scalar.cmpi .ne v477 c0_i32_210
  let v482 : BitVec 1 := Scalar.andi v481 v478
  let v483 : BitVec 32 := Scalar.addi v477 v476
  let v484 : BitVec 32 := Scalar.select v482 v483 v477
  let v1086 : Index := Scalar.indexCast v484
  let c0_480 : Index := 0#32
  let c0_481 : Index := 0#32
  ![v1086.toNat, 0, 0]
def k0_dev11 (d0 : Dev nD) : Nat :=
  let c0_i32_567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_566 : BitVec 32 := 1#32
  let v1174 : BitVec 32 := Scalar.muli v25 c1_i32_566
  let v1175 : BitVec 32 := Scalar.addi c0_i32_567 v1174
  v1175.toNat
def k0_dev12 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_574 : BitVec 32 := 1#32
  let v1184 : BitVec 32 := Scalar.muli v25 c1_i32_574
  let v1185 : BitVec 32 := Scalar.addi c0_i32_575 v1184
  v1185.toNat
def k0_dev13 (d0 : Dev nD) : Nat :=
  let c0_i32_583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_582 : BitVec 32 := 1#32
  let v1194 : BitVec 32 := Scalar.muli v14 c1_i32_582
  let v1195 : BitVec 32 := Scalar.addi c0_i32_583 v1194
  v1195.toNat
def k0_dev14 (d0 : Dev nD) : Nat :=
  let c0_i32_591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_590 : BitVec 32 := 1#32
  let v1204 : BitVec 32 := Scalar.muli v14 c1_i32_590
  let v1205 : BitVec 32 := Scalar.addi c0_i32_591 v1204
  v1205.toNat
def k0_dev15 (d0 : Dev nD) : Nat :=
  let c0_i32_857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_856 : BitVec 32 := 1#32
  let v1807 : BitVec 32 := Scalar.muli v25 c1_i32_856
  let v1808 : BitVec 32 := Scalar.addi c0_i32_857 v1807
  v1808.toNat
def k0_dev16 (d0 : Dev nD) : Nat :=
  let c0_i32_865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_864 : BitVec 32 := 1#32
  let v1817 : BitVec 32 := Scalar.muli v25 c1_i32_864
  let v1818 : BitVec 32 := Scalar.addi c0_i32_865 v1817
  v1818.toNat
def k0_dev17 (d0 : Dev nD) : Nat :=
  let c0_i32_873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_872 : BitVec 32 := 1#32
  let v1827 : BitVec 32 := Scalar.muli v14 c1_i32_872
  let v1828 : BitVec 32 := Scalar.addi c0_i32_873 v1827
  v1828.toNat
def k0_dev18 (d0 : Dev nD) : Nat :=
  let c0_i32_881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_880 : BitVec 32 := 1#32
  let v1837 : BitVec 32 := Scalar.muli v14 c1_i32_880
  let v1838 : BitVec 32 := Scalar.addi c0_i32_881 v1837
  v1838.toNat
def k0_dev19 (d0 : Dev nD) : Nat :=
  let c0_i32_1148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1147 : BitVec 32 := 1#32
  let v2440 : BitVec 32 := Scalar.muli v25 c1_i32_1147
  let v2441 : BitVec 32 := Scalar.addi c0_i32_1148 v2440
  v2441.toNat
def k0_dev20 (d0 : Dev nD) : Nat :=
  let c0_i32_1156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1155 : BitVec 32 := 1#32
  let v2450 : BitVec 32 := Scalar.muli v25 c1_i32_1155
  let v2451 : BitVec 32 := Scalar.addi c0_i32_1156 v2450
  v2451.toNat
def k0_dev21 (d0 : Dev nD) : Nat :=
  let c0_i32_1164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1163 : BitVec 32 := 1#32
  let v2460 : BitVec 32 := Scalar.muli v14 c1_i32_1163
  let v2461 : BitVec 32 := Scalar.addi c0_i32_1164 v2460
  v2461.toNat
def k0_dev22 (d0 : Dev nD) : Nat :=
  let c0_i32_1172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1171 : BitVec 32 := 1#32
  let v2470 : BitVec 32 := Scalar.muli v14 c1_i32_1171
  let v2471 : BitVec 32 := Scalar.addi c0_i32_1172 v2470
  v2471.toNat
def k0_dev23 (d0 : Dev nD) : Nat :=
  let c0_i32_1438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1437 : BitVec 32 := 1#32
  let v3073 : BitVec 32 := Scalar.muli v25 c1_i32_1437
  let v3074 : BitVec 32 := Scalar.addi c0_i32_1438 v3073
  v3074.toNat
def k0_dev24 (d0 : Dev nD) : Nat :=
  let c0_i32_1446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1445 : BitVec 32 := 1#32
  let v3083 : BitVec 32 := Scalar.muli v25 c1_i32_1445
  let v3084 : BitVec 32 := Scalar.addi c0_i32_1446 v3083
  v3084.toNat
def k0_dev25 (d0 : Dev nD) : Nat :=
  let c0_i32_1454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1453 : BitVec 32 := 1#32
  let v3093 : BitVec 32 := Scalar.muli v14 c1_i32_1453
  let v3094 : BitVec 32 := Scalar.addi c0_i32_1454 v3093
  v3094.toNat
def k0_dev26 (d0 : Dev nD) : Nat :=
  let c0_i32_1462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1461 : BitVec 32 := 1#32
  let v3103 : BitVec 32 := Scalar.muli v14 c1_i32_1461
  let v3104 : BitVec 32 := Scalar.addi c0_i32_1462 v3103
  v3104.toNat
def k0_dev27 (d0 : Dev nD) : Nat :=
  let c0_i32_1728 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1727 : BitVec 32 := 1#32
  let v3706 : BitVec 32 := Scalar.muli v25 c1_i32_1727
  let v3707 : BitVec 32 := Scalar.addi c0_i32_1728 v3706
  v3707.toNat
def k0_dev28 (d0 : Dev nD) : Nat :=
  let c0_i32_1736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1735 : BitVec 32 := 1#32
  let v3716 : BitVec 32 := Scalar.muli v25 c1_i32_1735
  let v3717 : BitVec 32 := Scalar.addi c0_i32_1736 v3716
  v3717.toNat
def k0_dev29 (d0 : Dev nD) : Nat :=
  let c0_i32_1744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1743 : BitVec 32 := 1#32
  let v3726 : BitVec 32 := Scalar.muli v14 c1_i32_1743
  let v3727 : BitVec 32 := Scalar.addi c0_i32_1744 v3726
  v3727.toNat
def k0_dev30 (d0 : Dev nD) : Nat :=
  let c0_i32_1752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1751 : BitVec 32 := 1#32
  let v3736 : BitVec 32 := Scalar.muli v14 c1_i32_1751
  let v3737 : BitVec 32 := Scalar.addi c0_i32_1752 v3736
  v3737.toNat
def k0_dev31 (d0 : Dev nD) : Nat :=
  let c0_i32_2018 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2017 : BitVec 32 := 1#32
  let v4339 : BitVec 32 := Scalar.muli v25 c1_i32_2017
  let v4340 : BitVec 32 := Scalar.addi c0_i32_2018 v4339
  v4340.toNat
def k0_dev32 (d0 : Dev nD) : Nat :=
  let c0_i32_2026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2025 : BitVec 32 := 1#32
  let v4349 : BitVec 32 := Scalar.muli v25 c1_i32_2025
  let v4350 : BitVec 32 := Scalar.addi c0_i32_2026 v4349
  v4350.toNat
def k0_dev33 (d0 : Dev nD) : Nat :=
  let c0_i32_2034 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2033 : BitVec 32 := 1#32
  let v4359 : BitVec 32 := Scalar.muli v14 c1_i32_2033
  let v4360 : BitVec 32 := Scalar.addi c0_i32_2034 v4359
  v4360.toNat
def k0_dev34 (d0 : Dev nD) : Nat :=
  let c0_i32_2042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2041 : BitVec 32 := 1#32
  let v4369 : BitVec 32 := Scalar.muli v14 c1_i32_2041
  let v4370 : BitVec 32 := Scalar.addi c0_i32_2042 v4369
  v4370.toNat
def k0_dev35 (d0 : Dev nD) : Nat :=
  let c0_i32_2308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2307 : BitVec 32 := 1#32
  let v4972 : BitVec 32 := Scalar.muli v25 c1_i32_2307
  let v4973 : BitVec 32 := Scalar.addi c0_i32_2308 v4972
  v4973.toNat
def k0_dev36 (d0 : Dev nD) : Nat :=
  let c0_i32_2316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2315 : BitVec 32 := 1#32
  let v4982 : BitVec 32 := Scalar.muli v25 c1_i32_2315
  let v4983 : BitVec 32 := Scalar.addi c0_i32_2316 v4982
  v4983.toNat
def k0_dev37 (d0 : Dev nD) : Nat :=
  let c0_i32_2324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2323 : BitVec 32 := 1#32
  let v4992 : BitVec 32 := Scalar.muli v14 c1_i32_2323
  let v4993 : BitVec 32 := Scalar.addi c0_i32_2324 v4992
  v4993.toNat
def k0_dev38 (d0 : Dev nD) : Nat :=
  let c0_i32_2332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2331 : BitVec 32 := 1#32
  let v5002 : BitVec 32 := Scalar.muli v14 c1_i32_2331
  let v5003 : BitVec 32 := Scalar.addi c0_i32_2332 v5002
  v5003.toNat
def k0_dev39 (d0 : Dev nD) : Nat :=
  let c0_i32_2598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2597 : BitVec 32 := 1#32
  let v5605 : BitVec 32 := Scalar.muli v25 c1_i32_2597
  let v5606 : BitVec 32 := Scalar.addi c0_i32_2598 v5605
  v5606.toNat
def k0_dev40 (d0 : Dev nD) : Nat :=
  let c0_i32_2606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2605 : BitVec 32 := 1#32
  let v5615 : BitVec 32 := Scalar.muli v25 c1_i32_2605
  let v5616 : BitVec 32 := Scalar.addi c0_i32_2606 v5615
  v5616.toNat
def k0_dev41 (d0 : Dev nD) : Nat :=
  let c0_i32_2614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2613 : BitVec 32 := 1#32
  let v5625 : BitVec 32 := Scalar.muli v14 c1_i32_2613
  let v5626 : BitVec 32 := Scalar.addi c0_i32_2614 v5625
  v5626.toNat
def k0_dev42 (d0 : Dev nD) : Nat :=
  let c0_i32_2622 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2621 : BitVec 32 := 1#32
  let v5635 : BitVec 32 := Scalar.muli v14 c1_i32_2621
  let v5636 : BitVec 32 := Scalar.addi c0_i32_2622 v5635
  v5636.toNat
def k0_dev43 (d0 : Dev nD) : Nat :=
  let c0_i32_2888 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2887 : BitVec 32 := 1#32
  let v6238 : BitVec 32 := Scalar.muli v25 c1_i32_2887
  let v6239 : BitVec 32 := Scalar.addi c0_i32_2888 v6238
  v6239.toNat
def k0_dev44 (d0 : Dev nD) : Nat :=
  let c0_i32_2896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2895 : BitVec 32 := 1#32
  let v6248 : BitVec 32 := Scalar.muli v25 c1_i32_2895
  let v6249 : BitVec 32 := Scalar.addi c0_i32_2896 v6248
  v6249.toNat
def k0_dev45 (d0 : Dev nD) : Nat :=
  let c0_i32_2904 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2903 : BitVec 32 := 1#32
  let v6258 : BitVec 32 := Scalar.muli v14 c1_i32_2903
  let v6259 : BitVec 32 := Scalar.addi c0_i32_2904 v6258
  v6259.toNat
def k0_dev46 (d0 : Dev nD) : Nat :=
  let c0_i32_2912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2911 : BitVec 32 := 1#32
  let v6268 : BitVec 32 := Scalar.muli v14 c1_i32_2911
  let v6269 : BitVec 32 := Scalar.addi c0_i32_2912 v6268
  v6269.toNat
def k0_dev47 (d0 : Dev nD) : Nat :=
  let c0_i32_3178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3177 : BitVec 32 := 1#32
  let v6871 : BitVec 32 := Scalar.muli v25 c1_i32_3177
  let v6872 : BitVec 32 := Scalar.addi c0_i32_3178 v6871
  v6872.toNat
def k0_dev48 (d0 : Dev nD) : Nat :=
  let c0_i32_3186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3185 : BitVec 32 := 1#32
  let v6881 : BitVec 32 := Scalar.muli v25 c1_i32_3185
  let v6882 : BitVec 32 := Scalar.addi c0_i32_3186 v6881
  v6882.toNat
def k0_dev49 (d0 : Dev nD) : Nat :=
  let c0_i32_3194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3193 : BitVec 32 := 1#32
  let v6891 : BitVec 32 := Scalar.muli v14 c1_i32_3193
  let v6892 : BitVec 32 := Scalar.addi c0_i32_3194 v6891
  v6892.toNat
def k0_dev50 (d0 : Dev nD) : Nat :=
  let c0_i32_3202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3201 : BitVec 32 := 1#32
  let v6901 : BitVec 32 := Scalar.muli v14 c1_i32_3201
  let v6902 : BitVec 32 := Scalar.addi c0_i32_3202 v6901
  v6902.toNat
def k0_dev51 (d0 : Dev nD) : Nat :=
  let c0_i32_3468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3467 : BitVec 32 := 1#32
  let v7504 : BitVec 32 := Scalar.muli v25 c1_i32_3467
  let v7505 : BitVec 32 := Scalar.addi c0_i32_3468 v7504
  v7505.toNat
def k0_dev52 (d0 : Dev nD) : Nat :=
  let c0_i32_3476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3475 : BitVec 32 := 1#32
  let v7514 : BitVec 32 := Scalar.muli v25 c1_i32_3475
  let v7515 : BitVec 32 := Scalar.addi c0_i32_3476 v7514
  v7515.toNat
def k0_dev53 (d0 : Dev nD) : Nat :=
  let c0_i32_3484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3483 : BitVec 32 := 1#32
  let v7524 : BitVec 32 := Scalar.muli v14 c1_i32_3483
  let v7525 : BitVec 32 := Scalar.addi c0_i32_3484 v7524
  v7525.toNat
def k0_dev54 (d0 : Dev nD) : Nat :=
  let c0_i32_3492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3491 : BitVec 32 := 1#32
  let v7534 : BitVec 32 := Scalar.muli v14 c1_i32_3491
  let v7535 : BitVec 32 := Scalar.addi c0_i32_3492 v7534
  v7535.toNat
def k0_dev55 (d0 : Dev nD) : Nat :=
  let c0_i32_3758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3757 : BitVec 32 := 1#32
  let v8137 : BitVec 32 := Scalar.muli v25 c1_i32_3757
  let v8138 : BitVec 32 := Scalar.addi c0_i32_3758 v8137
  v8138.toNat
def k0_dev56 (d0 : Dev nD) : Nat :=
  let c0_i32_3766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3765 : BitVec 32 := 1#32
  let v8147 : BitVec 32 := Scalar.muli v25 c1_i32_3765
  let v8148 : BitVec 32 := Scalar.addi c0_i32_3766 v8147
  v8148.toNat
def k0_dev57 (d0 : Dev nD) : Nat :=
  let c0_i32_3774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3773 : BitVec 32 := 1#32
  let v8157 : BitVec 32 := Scalar.muli v14 c1_i32_3773
  let v8158 : BitVec 32 := Scalar.addi c0_i32_3774 v8157
  v8158.toNat
def k0_dev58 (d0 : Dev nD) : Nat :=
  let c0_i32_3782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3781 : BitVec 32 := 1#32
  let v8167 : BitVec 32 := Scalar.muli v14 c1_i32_3781
  let v8168 : BitVec 32 := Scalar.addi c0_i32_3782 v8167
  v8168.toNat
def k0_dev59 (d0 : Dev nD) : Nat :=
  let c0_i32_4048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4047 : BitVec 32 := 1#32
  let v8770 : BitVec 32 := Scalar.muli v25 c1_i32_4047
  let v8771 : BitVec 32 := Scalar.addi c0_i32_4048 v8770
  v8771.toNat
def k0_dev60 (d0 : Dev nD) : Nat :=
  let c0_i32_4056 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4055 : BitVec 32 := 1#32
  let v8780 : BitVec 32 := Scalar.muli v25 c1_i32_4055
  let v8781 : BitVec 32 := Scalar.addi c0_i32_4056 v8780
  v8781.toNat
def k0_dev61 (d0 : Dev nD) : Nat :=
  let c0_i32_4064 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4063 : BitVec 32 := 1#32
  let v8790 : BitVec 32 := Scalar.muli v14 c1_i32_4063
  let v8791 : BitVec 32 := Scalar.addi c0_i32_4064 v8790
  v8791.toNat
def k0_dev62 (d0 : Dev nD) : Nat :=
  let c0_i32_4072 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4071 : BitVec 32 := 1#32
  let v8800 : BitVec 32 := Scalar.muli v14 c1_i32_4071
  let v8801 : BitVec 32 := Scalar.addi c0_i32_4072 v8800
  v8801.toNat
def k0_dev63 (d0 : Dev nD) : Nat :=
  let c0_i32_4338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4337 : BitVec 32 := 1#32
  let v9403 : BitVec 32 := Scalar.muli v25 c1_i32_4337
  let v9404 : BitVec 32 := Scalar.addi c0_i32_4338 v9403
  v9404.toNat
def k0_dev64 (d0 : Dev nD) : Nat :=
  let c0_i32_4346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4345 : BitVec 32 := 1#32
  let v9413 : BitVec 32 := Scalar.muli v25 c1_i32_4345
  let v9414 : BitVec 32 := Scalar.addi c0_i32_4346 v9413
  v9414.toNat
def k0_off15 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_4573 : BitVec 32 := 32#32
  let v9977 : BitVec 32 := Scalar.addi v2 c32_i32_4573
  let c16_i32 : BitVec 32 := 16#32
  let v9978 : BitVec 32 := Scalar.subi v9977 c16_i32
  let c32_i32_4574 : BitVec 32 := 32#32
  let c0_i32_4575 : BitVec 32 := 0#32
  let v9979 : BitVec 1 := Scalar.cmpi .eq c32_i32_4574 c0_i32_4575
  let c1_i32_4576 : BitVec 32 := 1#32
  let v9980 : BitVec 32 := Scalar.select v9979 c1_i32_4576 c32_i32_4574
  let v9981 : BitVec 32 := Scalar.remsi v9978 v9980
  let c0_i32_4578 : BitVec 32 := 0#32
  let v9983 : BitVec 1 := Scalar.cmpi .slt v9981 c0_i32_4578
  let c0_i32_4579 : BitVec 32 := 0#32
  let v9984 : BitVec 1 := Scalar.cmpi .slt v9980 c0_i32_4579
  let v9985 : BitVec 1 := Scalar.xori v9983 v9984
  let c0_i32_4577 : BitVec 32 := 0#32
  let v9982 : BitVec 1 := Scalar.cmpi .ne v9981 c0_i32_4577
  let v9986 : BitVec 1 := Scalar.andi v9985 v9982
  let v9987 : BitVec 32 := Scalar.addi v9981 v9980
  let v9988 : BitVec 32 := Scalar.select v9986 v9987 v9981
  let v9989 : Index := Scalar.indexCast v9988
  let c0_4580 : Index := 0#32
  let c0_4581 : Index := 0#32
  ![v9989.toNat, 0, 0]
def k0_off16 (d0 : Dev nD) : Fin 4 → Nat :=
  let c0_4584 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_4573 : BitVec 32 := 32#32
  let v9977 : BitVec 32 := Scalar.addi v2 c32_i32_4573
  let c16_i32 : BitVec 32 := 16#32
  let v9978 : BitVec 32 := Scalar.subi v9977 c16_i32
  let c32_i32_4574 : BitVec 32 := 32#32
  let c0_i32_4575 : BitVec 32 := 0#32
  let v9979 : BitVec 1 := Scalar.cmpi .eq c32_i32_4574 c0_i32_4575
  let c1_i32_4576 : BitVec 32 := 1#32
  let v9980 : BitVec 32 := Scalar.select v9979 c1_i32_4576 c32_i32_4574
  let v9981 : BitVec 32 := Scalar.remsi v9978 v9980
  let c0_i32_4578 : BitVec 32 := 0#32
  let v9983 : BitVec 1 := Scalar.cmpi .slt v9981 c0_i32_4578
  let c0_i32_4579 : BitVec 32 := 0#32
  let v9984 : BitVec 1 := Scalar.cmpi .slt v9980 c0_i32_4579
  let v9985 : BitVec 1 := Scalar.xori v9983 v9984
  let c0_i32_4577 : BitVec 32 := 0#32
  let v9982 : BitVec 1 := Scalar.cmpi .ne v9981 c0_i32_4577
  let v9986 : BitVec 1 := Scalar.andi v9985 v9982
  let v9987 : BitVec 32 := Scalar.addi v9981 v9980
  let v9988 : BitVec 32 := Scalar.select v9986 v9987 v9981
  let c4_i32_4583 : BitVec 32 := 4#32
  let v9993 : BitVec 32 := Scalar.muli v9988 c4_i32_4583
  let v9994 : Index := Scalar.indexCast v9993
  let c0_4585 : Index := 0#32
  let c0_4586 : Index := 0#32
  ![0, v9994.toNat, 0, 0]
def k0_off17 (d0 : Dev nD) : Fin 4 → Nat :=
  let c1_4588 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_4573 : BitVec 32 := 32#32
  let v9977 : BitVec 32 := Scalar.addi v2 c32_i32_4573
  let c16_i32 : BitVec 32 := 16#32
  let v9978 : BitVec 32 := Scalar.subi v9977 c16_i32
  let c32_i32_4574 : BitVec 32 := 32#32
  let c0_i32_4575 : BitVec 32 := 0#32
  let v9979 : BitVec 1 := Scalar.cmpi .eq c32_i32_4574 c0_i32_4575
  let c1_i32_4576 : BitVec 32 := 1#32
  let v9980 : BitVec 32 := Scalar.select v9979 c1_i32_4576 c32_i32_4574
  let v9981 : BitVec 32 := Scalar.remsi v9978 v9980
  let c0_i32_4578 : BitVec 32 := 0#32
  let v9983 : BitVec 1 := Scalar.cmpi .slt v9981 c0_i32_4578
  let c0_i32_4579 : BitVec 32 := 0#32
  let v9984 : BitVec 1 := Scalar.cmpi .slt v9980 c0_i32_4579
  let v9985 : BitVec 1 := Scalar.xori v9983 v9984
  let c0_i32_4577 : BitVec 32 := 0#32
  let v9982 : BitVec 1 := Scalar.cmpi .ne v9981 c0_i32_4577
  let v9986 : BitVec 1 := Scalar.andi v9985 v9982
  let v9987 : BitVec 32 := Scalar.addi v9981 v9980
  let v9988 : BitVec 32 := Scalar.select v9986 v9987 v9981
  let c4_i32_4587 : BitVec 32 := 4#32
  let v9997 : BitVec 32 := Scalar.muli v9988 c4_i32_4587
  let v9998 : Index := Scalar.indexCast v9997
  let c0_4589 : Index := 0#32
  let c0_4590 : Index := 0#32
  ![1, v9998.toNat, 0, 0]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_4573 : BitVec 32 := 32#32
  let v9977 : BitVec 32 := Scalar.addi v2 c32_i32_4573
  let c16_i32 : BitVec 32 := 16#32
  let v9978 : BitVec 32 := Scalar.subi v9977 c16_i32
  let c32_i32_4574 : BitVec 32 := 32#32
  let c0_i32_4575 : BitVec 32 := 0#32
  let v9979 : BitVec 1 := Scalar.cmpi .eq c32_i32_4574 c0_i32_4575
  let c1_i32_4576 : BitVec 32 := 1#32
  let v9980 : BitVec 32 := Scalar.select v9979 c1_i32_4576 c32_i32_4574
  let v9981 : BitVec 32 := Scalar.remsi v9978 v9980
  let c0_i32_4578 : BitVec 32 := 0#32
  let v9983 : BitVec 1 := Scalar.cmpi .slt v9981 c0_i32_4578
  let c0_i32_4579 : BitVec 32 := 0#32
  let v9984 : BitVec 1 := Scalar.cmpi .slt v9980 c0_i32_4579
  let v9985 : BitVec 1 := Scalar.xori v9983 v9984
  let c0_i32_4577 : BitVec 32 := 0#32
  let v9982 : BitVec 1 := Scalar.cmpi .ne v9981 c0_i32_4577
  let v9986 : BitVec 1 := Scalar.andi v9985 v9982
  let v9987 : BitVec 32 := Scalar.addi v9981 v9980
  let v9988 : BitVec 32 := Scalar.select v9986 v9987 v9981
  let v10237 : Index := Scalar.indexCast v9988
  let c0_4663 : Index := 0#32
  let c0_4664 : Index := 0#32
  ![v10237.toNat, 0, 0]
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x4096x512 : Shape := ⟨3, ![2, 4096, 512]⟩
abbrev S512x8192 : Shape := ⟨2, ![512, 8192]⟩
abbrev S2x128x128x64 : Shape := ⟨4, ![2, 128, 128, 64]⟩
abbrev S8192x512 : Shape := ⟨2, ![8192, 512]⟩
abbrev S2x4096x8192 : Shape := ⟨3, ![2, 4096, 8192]⟩
abbrev S2x4096x128x64 : Shape := ⟨4, ![2, 4096, 128, 64]⟩
abbrev S4096 : Shape := ⟨1, ![4096]⟩
abbrev S_ : Shape := ⟨0, ![]⟩
abbrev S4096x1 : Shape := ⟨2, ![4096, 1]⟩
abbrev S128 : Shape := ⟨1, ![128]⟩
abbrev S1x128 : Shape := ⟨2, ![1, 128]⟩
abbrev S4096x128 : Shape := ⟨2, ![4096, 128]⟩
abbrev S2x128x4096x128 : Shape := ⟨4, ![2, 128, 4096, 128]⟩
abbrev S1x1x4096x128 : Shape := ⟨4, ![1, 1, 4096, 128]⟩
abbrev S2x128x4096 : Shape := ⟨3, ![2, 128, 4096]⟩
abbrev S2x128x4096x1 : Shape := ⟨4, ![2, 128, 4096, 1]⟩
abbrev S1x1x4096x1 : Shape := ⟨4, ![1, 1, 4096, 1]⟩
abbrev S2x128x64x4096 : Shape := ⟨4, ![2, 128, 64, 4096]⟩

abbrev nBuf : Space → Nat
  | .hbm => 146
  | .vmem => 0
  | .smem => 0
  | _ => 0

abbrev hbmTy0_0 (i : Nat) : BufTy := match i % 128 with
  | 0 => ⟨S2x4096x512, .bf16⟩
  | 1 => ⟨S512x8192, .bf16⟩
  | 2 => ⟨S2x128x128x64, .bf16⟩
  | 3 => ⟨S2x128x128x64, .bf16⟩
  | 4 => ⟨S8192x512, .bf16⟩
  | 5 => ⟨S2x4096x512, .f32⟩
  | 6 => ⟨S512x8192, .f32⟩
  | 7 => ⟨S2x128x128x64, .f32⟩
  | 8 => ⟨S2x128x128x64, .f32⟩
  | 9 => ⟨S8192x512, .f32⟩
  | 10 => ⟨S2x4096x8192, .f32⟩
  | 11 => ⟨S2x4096x8192, .bf16⟩
  | 12 => ⟨S2x4096x8192, .f32⟩
  | 13 => ⟨S2x4096x128x64, .f32⟩
  | 14 => ⟨S4096, .i32⟩
  | 15 => ⟨S_, .i32⟩
  | 16 => ⟨S_, .i32⟩
  | 17 => ⟨S4096, .i32⟩
  | 18 => ⟨S4096, .i32⟩
  | 19 => ⟨S4096, .i32⟩
  | 20 => ⟨S_, .i32⟩
  | 21 => ⟨S4096, .i32⟩
  | 22 => ⟨S4096, .i1⟩
  | 23 => ⟨S4096, .i32⟩
  | 24 => ⟨S4096, .i32⟩
  | 25 => ⟨S_, .i32⟩
  | 26 => ⟨S4096, .i32⟩
  | 27 => ⟨S4096, .i1⟩
  | 28 => ⟨S4096, .i1⟩
  | 29 => ⟨S_, .i32⟩
  | 30 => ⟨S4096, .i32⟩
  | 31 => ⟨S4096, .i32⟩
  | 32 => ⟨S4096, .i32⟩
  | 33 => ⟨S4096x1, .i32⟩
  | 34 => ⟨S128, .i32⟩
  | 35 => ⟨S_, .i32⟩
  | 36 => ⟨S_, .i32⟩
  | 37 => ⟨S128, .i32⟩
  | 38 => ⟨S128, .i32⟩
  | 39 => ⟨S128, .i32⟩
  | 40 => ⟨S_, .i32⟩
  | 41 => ⟨S128, .i32⟩
  | 42 => ⟨S128, .i1⟩
  | 43 => ⟨S128, .i32⟩
  | 44 => ⟨S128, .i32⟩
  | 45 => ⟨S_, .i32⟩
  | 46 => ⟨S128, .i32⟩
  | 47 => ⟨S128, .i1⟩
  | 48 => ⟨S128, .i1⟩
  | 49 => ⟨S_, .i32⟩
  | 50 => ⟨S128, .i32⟩
  | 51 => ⟨S128, .i32⟩
  | 52 => ⟨S128, .i32⟩
  | 53 => ⟨S1x128, .i32⟩
  | 54 => ⟨S4096x128, .i32⟩
  | 55 => ⟨S4096x128, .i32⟩
  | 56 => ⟨S4096x128, .i1⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S1x128, .i32⟩
  | 64 => ⟨S1x128, .i32⟩
  | 65 => ⟨S_, .i32⟩
  | 66 => ⟨S1x128, .i32⟩
  | 67 => ⟨S1x128, .i1⟩
  | 68 => ⟨S_, .i32⟩
  | 69 => ⟨S1x128, .i32⟩
  | 70 => ⟨S1x128, .i1⟩
  | 71 => ⟨S_, .i32⟩
  | 72 => ⟨S_, .i1⟩
  | 73 => ⟨S1x128, .i1⟩
  | 74 => ⟨S1x128, .i1⟩
  | 75 => ⟨S1x128, .i1⟩
  | 76 => ⟨S1x128, .i32⟩
  | 77 => ⟨S1x128, .i32⟩
  | 78 => ⟨S1x128, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S4096x1, .i32⟩
  | 86 => ⟨S4096x1, .i32⟩
  | 87 => ⟨S_, .i32⟩
  | 88 => ⟨S4096x1, .i32⟩
  | 89 => ⟨S4096x1, .i1⟩
  | 90 => ⟨S_, .i32⟩
  | 91 => ⟨S4096x1, .i32⟩
  | 92 => ⟨S4096x1, .i1⟩
  | 93 => ⟨S_, .i32⟩
  | 94 => ⟨S_, .i1⟩
  | 95 => ⟨S4096x1, .i1⟩
  | 96 => ⟨S4096x1, .i1⟩
  | 97 => ⟨S4096x1, .i1⟩
  | 98 => ⟨S4096x1, .i32⟩
  | 99 => ⟨S4096x1, .i32⟩
  | 100 => ⟨S4096x1, .i32⟩
  | 101 => ⟨S4096x128, .i32⟩
  | 102 => ⟨S4096x128, .i32⟩
  | 103 => ⟨S4096x128, .i1⟩
  | 104 => ⟨S4096x128, .i1⟩
  | 105 => ⟨S2x128x4096x128, .f32⟩
  | 106 => ⟨S2x128x4096x128, .bf16⟩
  | 107 => ⟨S2x128x4096x128, .f32⟩
  | 108 => ⟨S_, .f32⟩
  | 109 => ⟨S2x128x4096x128, .f32⟩
  | 110 => ⟨S2x128x4096x128, .f32⟩
  | 111 => ⟨S1x1x4096x128, .i1⟩
  | 112 => ⟨S_, .f32⟩
  | 113 => ⟨S_, .f32⟩
  | 114 => ⟨S2x128x4096x128, .i1⟩
  | 115 => ⟨S2x128x4096x128, .f32⟩
  | 116 => ⟨S2x128x4096x128, .f32⟩
  | 117 => ⟨S_, .f32⟩
  | 118 => ⟨S2x128x4096, .f32⟩
  | 119 => ⟨S2x128x4096x1, .f32⟩
  | 120 => ⟨S2x128x4096x128, .f32⟩
  | 121 => ⟨S2x128x4096x128, .f32⟩
  | 122 => ⟨S2x128x4096x128, .f32⟩
  | 123 => ⟨S_, .i1⟩
  | 124 => ⟨S4096, .i1⟩
  | 125 => ⟨S1x1x4096x1, .i1⟩
  | 126 => ⟨S_, .f32⟩
  | 127 => ⟨S2x128x4096, .f32⟩
  | _ => ⟨S2x4096x512, .bf16⟩

abbrev hbmTy0_1 (i : Nat) : BufTy := match i % 128 with
  | 0 => ⟨S2x128x4096x1, .f32⟩
  | 1 => ⟨S_, .f32⟩
  | 2 => ⟨S_, .f32⟩
  | 3 => ⟨S2x128x4096x1, .i1⟩
  | 4 => ⟨S2x128x4096x1, .f32⟩
  | 5 => ⟨S2x128x4096x1, .f32⟩
  | 6 => ⟨S2x128x4096x128, .f32⟩
  | 7 => ⟨S2x128x4096x128, .f32⟩
  | 8 => ⟨S1x1x4096x1, .i1⟩
  | 9 => ⟨S_, .f32⟩
  | 10 => ⟨S_, .f32⟩
  | 11 => ⟨S2x128x4096x128, .i1⟩
  | 12 => ⟨S2x128x4096x128, .f32⟩
  | 13 => ⟨S2x128x4096x128, .f32⟩
  | 14 => ⟨S2x128x64x4096, .f32⟩
  | 15 => ⟨S2x4096x128x64, .f32⟩
  | 16 => ⟨S2x4096x8192, .f32⟩
  | 17 => ⟨S2x4096x512, .f32⟩
  | _ => ⟨S2x4096x512, .bf16⟩

abbrev hbmTy (i : Nat) : BufTy := match i / 128 with
  | 0 => hbmTy0_0 i
  | 1 => hbmTy0_1 i
  | _ => ⟨S2x4096x512, .bf16⟩

abbrev bufTy : (tb : Table) → Fin (tcTables nBuf tb) → BufTy
  | .hbm, ⟨i, _⟩ => hbmTy i
  | _, _ => ⟨S2x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_c_1 : Ref sig .tc := ⟨.hbm, 57, rfl⟩
abbrev main_call2_v0 : Ref sig .tc := ⟨.hbm, 58, rfl⟩
abbrev main_call2_c : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_1 : Ref sig .tc := ⟨.hbm, 65, rfl⟩
abbrev main_call2_v5 : Ref sig .tc := ⟨.hbm, 66, rfl⟩
abbrev main_call2_v6 : Ref sig .tc := ⟨.hbm, 67, rfl⟩
abbrev main_call2_c_2 : Ref sig .tc := ⟨.hbm, 68, rfl⟩
abbrev main_call2_v7 : Ref sig .tc := ⟨.hbm, 69, rfl⟩
abbrev main_call2_v8 : Ref sig .tc := ⟨.hbm, 70, rfl⟩
abbrev main_call2_c_3 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_v18 : Ref sig .tc := ⟨.hbm, 78, rfl⟩
abbrev main_c_2 : Ref sig .tc := ⟨.hbm, 79, rfl⟩
abbrev main_call3_v0 : Ref sig .tc := ⟨.hbm, 80, rfl⟩
abbrev main_call3_c : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_c_1 : Ref sig .tc := ⟨.hbm, 87, rfl⟩
abbrev main_call3_v5 : Ref sig .tc := ⟨.hbm, 88, rfl⟩
abbrev main_call3_v6 : Ref sig .tc := ⟨.hbm, 89, rfl⟩
abbrev main_call3_c_2 : Ref sig .tc := ⟨.hbm, 90, rfl⟩
abbrev main_call3_v7 : Ref sig .tc := ⟨.hbm, 91, rfl⟩
abbrev main_call3_v8 : Ref sig .tc := ⟨.hbm, 92, rfl⟩
abbrev main_call3_c_3 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_v12 : Ref sig .tc := ⟨.hbm, 97, rfl⟩
abbrev main_call3_v13 : Ref sig .tc := ⟨.hbm, 98, rfl⟩
abbrev main_call3_v14 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_v23 : Ref sig .tc := ⟨.hbm, 104, rfl⟩
abbrev main_v24 : Ref sig .tc := ⟨.hbm, 105, rfl⟩
abbrev main_v25 : Ref sig .tc := ⟨.hbm, 106, rfl⟩
abbrev main_v26 : Ref sig .tc := ⟨.hbm, 107, rfl⟩
abbrev main_cst : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_cst_3 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_v30 : Ref sig .tc := ⟨.hbm, 116, rfl⟩
abbrev main_cst_4 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_c_5 : Ref sig .tc := ⟨.hbm, 123, rfl⟩
abbrev main_v36 : Ref sig .tc := ⟨.hbm, 124, rfl⟩
abbrev main_v37 : Ref sig .tc := ⟨.hbm, 125, rfl⟩
abbrev main_cst_6 : Ref sig .tc := ⟨.hbm, 126, rfl⟩
abbrev main_v38 : Ref sig .tc := ⟨.hbm, 127, rfl⟩
abbrev main_v39 : Ref sig .tc := ⟨.hbm, 128, rfl⟩
abbrev main_cst_7 : Ref sig .tc := ⟨.hbm, 129, rfl⟩
abbrev main_call5_v0 : Ref sig .tc := ⟨.hbm, 130, rfl⟩
abbrev main_call5_v1 : Ref sig .tc := ⟨.hbm, 131, rfl⟩
abbrev main_call5_v2 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩
abbrev main_cst_8 : Ref sig .tc := ⟨.hbm, 137, rfl⟩
abbrev main_call6_v0 : Ref sig .tc := ⟨.hbm, 138, rfl⟩
abbrev main_call6_v1 : Ref sig .tc := ⟨.hbm, 139, rfl⟩
abbrev main_call6_v2 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩

abbrev nD : Nat := 1
abbrev τ : Topo := Topo.v7x

variable {F : FTy → Type} [FloatOps F]
-- ==== Proof.Body.lean ====
/- The kernel's body as a short program.  The printed body is 486 operations; read as a protocol it
   is a prologue, sixteen hops round the ring and a closing chunk.  This file names those pieces
   (`launchF`, `arrive`, `chunk`, …), each over the hop's number, and shows that the printed body is
   their composition. -/
module

public import proofs.«01_k».proof.Proof.Gen.KernelIdeal.Skeleton
public import Idealize.ShloMosaic.Lib.Pipeline.Regions

@[expose] public section

noncomputable section

namespace Cert.KernelIdeal.Ring

open Idealize.ShloMosaic Idealize.SL.Sem Cert.KernelIdeal.Gen

variable {F : FTy → Type} [FloatOps F]

/-- A program of the kernel's body. -/
abbrev P (F : FTy → Type) [FloatOps F] := Prog (TpuEff nD τ sig (Elt F) Λ₀ .tc) PUnit

/-! ## What a chunk computes -/

/-- The weights of one head: the scaled scores masked, exponentiated against their row's maximum and
divided by the row's sum, a row that sees no key left at zero. -/
def weights (mask : IVec S128x128 1) (keep : IVec S128x1 1) (q : FVec F S128x64 .f32)
    (k : FVec F S128x64 .bf16) : FVec F S128x128 .f32 :=
  let sc := mulf (matmul dot_S128x64_S128x64_S128x128_1_1_0_0_n_n none
      (truncf .bf16 q bitsLt_bf16_f32) k (constant S128x128 .f32 0x00000000#32))
    (broadcast S128x128 (Scalar.ofBits .f32 0x3E000000#32))
  let ms := select mask sc (broadcast S128x128 (Scalar.ofBits .f32 0xCE6E6B28#32))
  let e := exp (subf ms (broadcastTo S128x128
    (shapeCast S128x1 (multiReduction .maximumf [1] S128 ms 0xFF800000#32 reduces_S128x128_S128
      (.inl rfl) rfl) shapeCasts_S128_S128x1) broadcasts_S128x1_S128x128))
  let s := select keep (shapeCast S128x1 (multiReduction .add [1] S128 e 0x00000000#32
      reduces_S128x128_S128 (.inl rfl) rfl) shapeCasts_S128_S128x1)
    (broadcast S128x1 (Scalar.ofBits .f32 0x3F800000#32))
  select (broadcastTo S128x128 (shapeCast S128x1 keep shapeCasts_S128x1_S128x1)
      broadcasts_S128x1_S128x128)
    (divf e (broadcastTo S128x128 s broadcasts_S128x1_S128x128))
    (broadcast S128x128 (Scalar.ofBits .f32 0x00000000#32))

/-- One head's context: its weights times its values. -/
def head (mask : IVec S128x128 1) (keep : IVec S128x1 1) (q : FVec F S128x64 .f32)
    (k v : FVec F S1x128x64 .bf16) : FVec F S128x64 .f32 :=
  matmul dot_S128x128_S128x64_S128x64_1_0_0_1_n_n none
    (truncf .bf16 (weights mask keep q (shapeCast S128x64 k shapeCasts_S1x128x64_S128x64))
      bitsLt_bf16_f32)
    (shapeCast S128x64 v shapeCasts_S1x128x64_S128x64) (constant S128x64 .f32 0x00000000#32)

/-- The queries of one chunk: the activations times the chunk's shard of the query weights. -/
def queries (x : FVec F S256x512 .bf16) (wq : Vec F S1x512x256 .bf16) : FVec F S256x256 .f32 :=
  matmul dot_S256x512_S512x256_S256x256_1_0_0_1_n_n none x
    (shapeCast S512x256 wq shapeCasts_S1x512x256_S512x256) (constant S256x256 .f32 0x00000000#32)

/-- The context of one chunk: four heads of each of the two batches, side by side and stacked. -/
def context (mask : IVec S128x128 1) (keep : IVec S128x1 1) (q : FVec F S256x256 .f32)
    (k0 k1 v0 v1 : FVec F S4x128x64 .bf16) : FVec F S256x256 .f32 :=
  concatenate S256x256 0
    [⟨S128x256, concatenate S128x256 1
      [⟨S128x64, head mask keep (extractStridedSlice S128x64 ![0, 0] q slices_S256x256_o0_0_S128x64)
        (extractStridedSlice S1x128x64 ![0, 0, 0] k0 slices_S4x128x64_o0_0_0_S1x128x64)
        (extractStridedSlice S1x128x64 ![0, 0, 0] v0 slices_S4x128x64_o0_0_0_S1x128x64)⟩,
       ⟨S128x64, head mask keep (extractStridedSlice S128x64 ![0, 64] q slices_S256x256_o0_64_S128x64)
        (extractStridedSlice S1x128x64 ![1, 0, 0] k0 slices_S4x128x64_o1_0_0_S1x128x64)
        (extractStridedSlice S1x128x64 ![1, 0, 0] v0 slices_S4x128x64_o1_0_0_S1x128x64)⟩,
       ⟨S128x64, head mask keep (extractStridedSlice S128x64 ![0, 128] q slices_S256x256_o0_128_S128x64)
        (extractStridedSlice S1x128x64 ![2, 0, 0] k0 slices_S4x128x64_o2_0_0_S1x128x64)
        (extractStridedSlice S1x128x64 ![2, 0, 0] v0 slices_S4x128x64_o2_0_0_S1x128x64)⟩,
       ⟨S128x64, head mask keep (extractStridedSlice S128x64 ![0, 192] q slices_S256x256_o0_192_S128x64)
        (extractStridedSlice S1x128x64 ![3, 0, 0] k0 slices_S4x128x64_o3_0_0_S1x128x64)
        (extractStridedSlice S1x128x64 ![3, 0, 0] v0 slices_S4x128x64_o3_0_0_S1x128x64)⟩]
      concatenates_S128x64_S128x64_S128x64_S128x64_S128x256_d1⟩,
     ⟨S128x256, concatenate S128x256 1
      [⟨S128x64, head mask keep (extractStridedSlice S128x64 ![128, 0] q slices_S256x256_o128_0_S128x64)
        (extractStridedSlice S1x128x64 ![0, 0, 0] k1 slices_S4x128x64_o0_0_0_S1x128x64)
        (extractStridedSlice S1x128x64 ![0, 0, 0] v1 slices_S4x128x64_o0_0_0_S1x128x64)⟩,
       ⟨S128x64, head mask keep (extractStridedSlice S128x64 ![128, 64] q slices_S256x256_o128_64_S128x64)
        (extractStridedSlice S1x128x64 ![1, 0, 0] k1 slices_S4x128x64_o1_0_0_S1x128x64)
        (extractStridedSlice S1x128x64 ![1, 0, 0] v1 slices_S4x128x64_o1_0_0_S1x128x64)⟩,
       ⟨S128x64, head mask keep (extractStridedSlice S128x64 ![128, 128] q slices_S256x256_o128_128_S128x64)
        (extractStridedSlice S1x128x64 ![2, 0, 0] k1 slices_S4x128x64_o2_0_0_S1x128x64)
        (extractStridedSlice S1x128x64 ![2, 0, 0] v1 slices_S4x128x64_o2_0_0_S1x128x64)⟩,
       ⟨S128x64, head mask keep (extractStridedSlice S128x64 ![128, 192] q slices_S256x256_o128_192_S128x64)
        (extractStridedSlice S1x128x64 ![3, 0, 0] k1 slices_S4x128x64_o3_0_0_S1x128x64)
        (extractStridedSlice S1x128x64 ![3, 0, 0] v1 slices_S4x128x64_o3_0_0_S1x128x64)⟩]
      concatenates_S128x64_S128x64_S128x64_S128x64_S128x256_d1⟩]
    concatenates_S128x256_S128x256_S256x256_d0

/-- The accumulator after a chunk: the chunk's context times its shard of the output weights, added. -/
def chunkVal (x : FVec F S256x512 .bf16) (mask : IVec S128x128 1) (keep : IVec S128x1 1)
    (wq : Vec F S1x512x256 .bf16) (k0 k1 v0 v1 : Vec F S1x4x128x64 .bf16)
    (wo : Vec F S1x256x512 .bf16) (acc : Vec F S2x128x512 .f32) : FVec F S2x128x512 .f32 :=
  addf (shapeCast S2x128x512 acc shapeCasts_S2x128x512_S2x128x512)
    (shapeCast S2x128x512 (matmul dot_S256x256_S256x512_S256x512_1_0_0_1_n_n none
      (truncf .bf16 (context mask keep (queries x wq)
        (shapeCast S4x128x64 k0 shapeCasts_S1x4x128x64_S4x128x64)
        (shapeCast S4x128x64 k1 shapeCasts_S1x4x128x64_S4x128x64)
        (shapeCast S4x128x64 v0 shapeCasts_S1x4x128x64_S4x128x64)
        (shapeCast S4x128x64 v1 shapeCasts_S1x4x128x64_S4x128x64)) bitsLt_bf16_f32)
      (shapeCast S256x512 wo shapeCasts_S1x256x512_S256x512)
      (constant S256x512 .f32 0x00000000#32)) shapeCasts_S256x512_S2x128x512)

/-- The device's position on the ring, as the kernel works it out. -/
def me (d : Dev nD) : BitVec 32 := Scalar.remsi (Scalar.divsi (Dev.word d) 1#32) 32#32

/-- The positions a query row of the device sees, as one bit for each key. -/
def maskOf (d : Dev nD) : IVec S128x128 1 :=
  let i := iota .tc S128x128 32 [0] iota_S128x128_d0_w32
  let j := iota .tc S128x128 32 [1] iota_S128x128_d1_w32
  let m := Scalar.muli (me d) 2#32
  k0_pay7 (k0_pay4 i m 64#32 k0_pay2 k0_pay3) (k0_pay5 j) (k0_pay6 i j m 64#32 k0_pay2 k0_pay3) 4#32

/-- The query rows that see a key at all. -/
def keepOf (F : FTy → Type) [FloatOps F] (d : Dev nD) : IVec S128x1 1 :=
  let i := iota .tc S128x128 32 [0] iota_S128x128_d0_w32
  let j := iota .tc S128x128 32 [1] iota_S128x128_d1_w32
  let m := Scalar.muli (me d) 2#32
  k0_pay8 (F := F) (k0_pay4 i m 64#32 k0_pay2 k0_pay3) (k0_pay5 j)
    (k0_pay6 i j m 64#32 k0_pay2 k0_pay3) 4#32

/-! ## The operations -/

/-- The stack of query-weight shards. -/
abbrev bufQ : Memref sig .tc .vmem S32x512x256 .bf16 := Memref.whole cc0_scratch0
/-- The stack of output-weight shards. -/
abbrev bufO : Memref sig .tc .vmem S32x256x512 .bf16 := Memref.whole cc0_scratch1

/-- One shard of the query stack, as a matrix. -/
abbrev viewQ (o : Fin 3 → ℕ) (h : ∀ a, o a + S1x512x256.size a ≤ S32x512x256.size a) :
    Memref sig .tc .vmem S512x256 .bf16 :=
  (bufQ.slice (Rect.unit (s := S32x512x256) o S1x512x256.size h) (fun _ => rfl)).squeeze S512x256
    squeezes_S1x512x256_S512x256
/-- One shard of the output stack, as a matrix. -/
abbrev viewO (o : Fin 3 → ℕ) (h : ∀ a, o a + S1x256x512.size a ≤ S32x256x512.size a) :
    Memref sig .tc .vmem S256x512 .bf16 :=
  (bufO.slice (Rect.unit (s := S32x256x512) o S1x256x512.size h) (fun _ => rfl)).squeeze S256x512
    squeezes_S1x256x512_S256x512

theorem inb16 (h : Fin 16) : ∀ a, (![h.val] : Fin 1 → ℕ) a + S1.size a ≤ S16.size a := by
  revert h; decide
theorem inb15 (h : Fin 15) : ∀ a, (![h.val] : Fin 1 → ℕ) a + S1.size a ≤ S15.size a := by
  revert h; decide

/-- Semaphore `h` of an array of sixteen. -/
abbrev sem16 (A : DmaSems sig S16) (h : Fin 16) : DmaSem sig :=
  ((A.slice (Rect.unit (s := S16) ![h.val] S1.size (inb16 h))).squeeze S_ squeezes_S1_S_).sem
/-- Semaphore `h` of an array of fifteen. -/
abbrev sem15 (A : DmaSems sig S15) (h : Fin 15) : DmaSem sig :=
  ((A.slice (Rect.unit (s := S15) ![h.val] S1.size (inb15 h))).squeeze S_ squeezes_S1_S_).sem

/-- Send a shard of the query stack to the same slot of another device. -/
def sendQ (dst : Dev nD) (s r : DmaSem sig) (o : Fin 3 → ℕ)
    (h : ∀ a, o a + S1x512x256.size a ≤ S32x512x256.size a)
    (hw : (Rect.unit (s := S32x512x256) o S1x512x256.size h).WholeWords (EltTy.packing .bf16))
    (k : P F) : P F :=
  .op (.enqueueDma (viewQ o h) (.remote (Dev.tc dst) (viewQ o h) (.dma s)) (.dma r)
    (((Memref.isWhole_whole _).wordExact_slice rfl _ hw).reshape _ _)
    (((Memref.isWhole_whole _).wordExact_slice rfl _ hw).reshape _ _)
    ⟨⟨rfl, Or.inl rfl⟩, trivial⟩) fun _ => k

/-- Send a shard of the output stack to the same slot of another device. -/
def sendO (dst : Dev nD) (s r : DmaSem sig) (o : Fin 3 → ℕ)
    (h : ∀ a, o a + S1x256x512.size a ≤ S32x256x512.size a)
    (hw : (Rect.unit (s := S32x256x512) o S1x256x512.size h).WholeWords (EltTy.packing .bf16))
    (k : P F) : P F :=
  .op (.enqueueDma (viewO o h) (.remote (Dev.tc dst) (viewO o h) (.dma s)) (.dma r)
    (((Memref.isWhole_whole _).wordExact_slice rfl _ hw).reshape _ _)
    (((Memref.isWhole_whole _).wordExact_slice rfl _ hw).reshape _ _)
    ⟨⟨rfl, Or.inl rfl⟩, trivial⟩) fun _ => k

/-- Wait for one shard of the query stack. -/
def waitQ (s : DmaSem sig) (o : Fin 3 → ℕ)
    (h : ∀ a, o a + S1x512x256.size a ≤ S32x512x256.size a)
    (hw : (Rect.unit (s := S32x512x256) o S1x512x256.size h).WholeWords (EltTy.packing .bf16))
    (k : P F) : P F :=
  .op (.waitDma2 s (viewQ o h) (viewQ o h)
    (((Memref.isWhole_whole _).wordExact_slice rfl _ hw).reshape _ _)
    (((Memref.isWhole_whole _).wordExact_slice rfl _ hw).reshape _ _)) fun _ => k

/-- Wait for one shard of the output stack. -/
def waitO (s : DmaSem sig) (o : Fin 3 → ℕ)
    (h : ∀ a, o a + S1x256x512.size a ≤ S32x256x512.size a)
    (hw : (Rect.unit (s := S32x256x512) o S1x256x512.size h).WholeWords (EltTy.packing .bf16))
    (k : P F) : P F :=
  .op (.waitDma2 s (viewO o h) (viewO o h)
    (((Memref.isWhole_whole _).wordExact_slice rfl _ hw).reshape _ _)
    (((Memref.isWhole_whole _).wordExact_slice rfl _ hw).reshape _ _)) fun _ => k

/-- Load the accumulator. -/
def loadAcc (acc : Memref sig .tc .vmem S2x128x512 .f32) (k : Vec F S2x128x512 .f32 → P F) : P F :=
  .op (.load acc (Rect.unit (s := S2x128x512) ![0, 0, 0] S2x128x512.size
    inb_S2x128x512_S2x128x512_0_0_0).toLoadRect (View.loadsAt_vmem h_S2x128x512)) k

/-- Store the accumulator. -/
def storeAcc (acc : Memref sig .tc .vmem S2x128x512 .f32) (w : Vec F S2x128x512 .f32) (k : P F) :
    P F :=
  .op (.store acc (Rect.unit (s := S2x128x512) ![0, 0, 0] S2x128x512.size
    inb_S2x128x512_S2x128x512_0_0_0) w Finset.univ (View.stores_vmem_bits_univ h_S2x128x512 rfl)
    (.inl rfl)) fun _ => k

/-- Load a shard of the query stack. -/
def loadQ (o : Fin 3 → ℕ) (h : ∀ a, o a + S1x512x256.size a ≤ S32x512x256.size a)
    (k : Vec F S1x512x256 .bf16 → P F) : P F :=
  .op (.load bufQ (Rect.unit (s := S32x512x256) o S1x512x256.size h).toLoadRect
    (View.loadsAt_vmem h_S1x512x256)) k
/-- Load a shard of the output stack. -/
def loadO (o : Fin 3 → ℕ) (h : ∀ a, o a + S1x256x512.size a ≤ S32x256x512.size a)
    (k : Vec F S1x256x512 .bf16 → P F) : P F :=
  .op (.load bufO (Rect.unit (s := S32x256x512) o S1x256x512.size h).toLoadRect
    (View.loadsAt_vmem h_S1x256x512)) k
/-- Load four heads of one batch of the keys or of the values. -/
def loadKV (m : Memref sig .tc .vmem S2x128x128x64 .bf16) (o : Fin 4 → ℕ)
    (h : ∀ a, o a + S1x4x128x64.size a ≤ S2x128x128x64.size a)
    (k : Vec F S1x4x128x64 .bf16 → P F) : P F :=
  .op (.load m (Rect.unit (s := S2x128x128x64) o S1x4x128x64.size h).toLoadRect
    (View.loadsAt_vmem h_S1x4x128x64)) k

/-- One chunk: load its shards and its heads, and add its contribution to the accumulator. -/
def chunk (arg3 arg4 : Memref sig .tc .vmem S2x128x128x64 .bf16)
    (arg5 : Memref sig .tc .vmem S2x128x512 .f32) (d : Dev nD) (x : FVec F S256x512 .bf16)
    (oq : Fin 3 → ℕ) (hq : ∀ a, oq a + S1x512x256.size a ≤ S32x512x256.size a)
    (o0 : Fin 4 → ℕ) (h0 : ∀ a, o0 a + S1x4x128x64.size a ≤ S2x128x128x64.size a)
    (o1 : Fin 4 → ℕ) (h1 : ∀ a, o1 a + S1x4x128x64.size a ≤ S2x128x128x64.size a)
    (oo : Fin 3 → ℕ) (ho : ∀ a, oo a + S1x256x512.size a ≤ S32x256x512.size a)
    (k : P F) : P F :=
  loadQ oq hq fun wq => loadKV arg3 o0 h0 fun k0 => loadKV arg3 o1 h1 fun k1 =>
  loadKV arg4 o0 h0 fun v0 => loadKV arg4 o1 h1 fun v1 => loadO oo ho fun wo =>
  loadAcc arg5 fun acc => loadAcc arg5 fun _ =>
  storeAcc arg5 (chunkVal x (maskOf d) (keepOf F d) wq k0 k1 v0 v1 wo acc) k

/-- The device to the right. -/
def devR (d : Dev nD) : Dev nD := ⟨k0_dev3 d, k0_dev3_lt d⟩
/-- The device to the left. -/
def devL (d : Dev nD) : Dev nD := ⟨k0_dev5 d, k0_dev5_lt d⟩

/-- Hop `h`'s two sends to the right. -/
def launchF (d : Dev nD) (h : Fin 16) (k : P F) : P F :=
  sendQ (devR d) (sem16 cc0_scratch2 h) (sem16 cc0_scratch3 h) (k0_off3 d (BitVec.ofNat 32 h.val))
    (k0_off3_inb d h) (k0_off3_wordsbf16 d h) <|
  sendO (devR d) (sem16 cc0_scratch4 h) (sem16 cc0_scratch5 h) (k0_off4 d (BitVec.ofNat 32 h.val))
    (k0_off4_inb d h) (k0_off4_wordsbf16 d h) k

/-- Hop `h`'s two sends to the left. -/
def launchB (d : Dev nD) (h : Fin 15) (k : P F) : P F :=
  sendQ (devL d) (sem15 cc0_scratch6 h) (sem15 cc0_scratch7 h)
    (k0_off5 d (BitVec.ofNat 32 h.castSucc.val))
    (k0_off5_inb d h.castSucc) (k0_off5_wordsbf16 d h.castSucc) <|
  sendO (devL d) (sem15 cc0_scratch8 h) (sem15 cc0_scratch9 h)
    (k0_off6 d (BitVec.ofNat 32 h.castSucc.val))
    (k0_off6_inb d h.castSucc) (k0_off6_wordsbf16 d h.castSucc) k

/-- The waits for what hop `r` sent to the right, and for what it received from the left. -/
def arriveF (d : Dev nD) (r o : Fin 16) (k : P F) : P F :=
  waitQ (sem16 cc0_scratch2 r) (k0_off3 d (BitVec.ofNat 32 o.val))
    (k0_off3_inb d o) (k0_off3_wordsbf16 d o) <|
  waitQ (sem16 cc0_scratch3 r) (k0_off3 d (BitVec.ofNat 32 o.val))
    (k0_off3_inb d o) (k0_off3_wordsbf16 d o) <|
  waitO (sem16 cc0_scratch4 r) (k0_off4 d (BitVec.ofNat 32 o.val))
    (k0_off4_inb d o) (k0_off4_wordsbf16 d o) <|
  waitO (sem16 cc0_scratch5 r) (k0_off4 d (BitVec.ofNat 32 o.val))
    (k0_off4_inb d o) (k0_off4_wordsbf16 d o) k

/-- The waits for what hop `r` sent to the left, and for what it received from the right. -/
def arriveB (d : Dev nD) (r : Fin 15) (k : P F) : P F :=
  waitQ (sem15 cc0_scratch6 r) (k0_off5 d (BitVec.ofNat 32 r.succ.val))
    (k0_off5_inb d r.succ) (k0_off5_wordsbf16 d r.succ) <|
  waitQ (sem15 cc0_scratch7 r) (k0_off5 d (BitVec.ofNat 32 r.succ.val))
    (k0_off5_inb d r.succ) (k0_off5_wordsbf16 d r.succ) <|
  waitO (sem15 cc0_scratch8 r) (k0_off6 d (BitVec.ofNat 32 r.succ.val))
    (k0_off6_inb d r.succ) (k0_off6_wordsbf16 d r.succ) <|
  waitO (sem15 cc0_scratch9 r) (k0_off6 d (BitVec.ofNat 32 r.succ.val))
    (k0_off6_inb d r.succ) (k0_off6_wordsbf16 d r.succ) k

section
variable (arg3 arg4 : Memref sig .tc .vmem S2x128x128x64 .bf16)
  (arg5 : Memref sig .tc .vmem S2x128x512 .f32) (d : Dev nD) (x : FVec F S256x512 .bf16)

/-- The chunk that came `h` hops from the left. -/
def chunkF (h : Fin 16) (k : P F) : P F :=
  chunk arg3 arg4 arg5 d x (k0_off7 d (BitVec.ofNat 32 h.val)) (k0_off7_inb d h)
    (k0_off8 d (BitVec.ofNat 32 h.val)) (k0_off8_inb d h)
    (k0_off9 d (BitVec.ofNat 32 h.val)) (k0_off9_inb d h)
    (k0_off10 d (BitVec.ofNat 32 h.val)) (k0_off10_inb d h) k

/-- The chunk that came `r + 1` hops from the right. -/
def chunkB (r : Fin 15) (k : P F) : P F :=
  chunk arg3 arg4 arg5 d x (k0_off11 d (BitVec.ofNat 32 (1 + r.val))) (k0_off11_inb d r)
    (k0_off12 d (BitVec.ofNat 32 (1 + r.val))) (k0_off12_inb d r)
    (k0_off13 d (BitVec.ofNat 32 (1 + r.val))) (k0_off13_inb d r)
    (k0_off14 d (BitVec.ofNat 32 (1 + r.val))) (k0_off14_inb d r) k

/-- After the last hop: its arrivals and the chunk they brought. -/
def closing : P F :=
  arriveF d 15 15 <|
  chunk arg3 arg4 arg5 d x (k0_off15 d) (k0_off15_inb d) (k0_off16 d) (k0_off16_inb d)
    (k0_off17 d) (k0_off17_inb d) (k0_off18 d) (k0_off18_inb d) (.ret ⟨⟩)

/-- The hops with `n` of the two-way hops still to come. -/
def hops : ℕ → P F
  | 0 => arriveF d 14 15 <| arriveB d 14 <| launchF d 15 <|
      chunkF arg3 arg4 arg5 d x 15 <| chunkB arg3 arg4 arg5 d x 14 <| closing arg3 arg4 arg5 d x
  | n + 1 =>
      arriveF d ⟨13 - n, by omega⟩ ⟨13 - n + 1, by omega⟩ <| arriveB d ⟨13 - n, by omega⟩ <|
      launchF d ⟨13 - n + 1, by omega⟩ <| launchB d ⟨13 - n + 1, by omega⟩ <|
      chunkF arg3 arg4 arg5 d x ⟨13 - n + 1, by omega⟩ <|
      chunkB arg3 arg4 arg5 d x ⟨13 - n, by omega⟩ <| hops n

/-- All the hops. -/
def ring : P F :=
  launchF d 0 <| launchB d 0 <| chunkF arg3 arg4 arg5 d x 0 <| hops arg3 arg4 arg5 d x 14
end

/-- The barrier semaphore. -/
abbrev bar : Sem sig := (SemArray.scalar (sig.barrier 0 rfl) : Sems sig S_).sem

/-- Tell both neighbours that this device has entered, and wait for both. -/
def meet (d : Dev nD) (k : P F) : P F :=
  .op (.semSignal ((⟨k0_dev1 d, k0_dev1_lt d⟩ : Dev nD), .tc) bar (1#32).toInt) fun _ =>
  .op (.semSignal ((⟨k0_dev2 d, k0_dev2_lt d⟩ : Dev nD), .tc) bar (1#32).toInt) fun _ =>
  .op (.semWait bar (2#32).toInt) fun _ => k

/-- The device's own shards into the stacks, and the accumulator to zero. -/
def fill (arg1 : Memref sig .tc .vmem S512x256 .bf16) (arg2 : Memref sig .tc .vmem S256x512 .bf16)
    (arg5 : Memref sig .tc .vmem S2x128x512 .f32) (d : Dev nD) (k : P F) : P F :=
  .op (.load arg1 (Rect.unit (s := S512x256) ![0, 0] S512x256.size
    inb_S512x256_S512x256_0_0).toLoadRect (View.loadsAt_vmem h_S512x256)) fun (w1 : Vec F S512x256 .bf16) =>
  loadQ (k0_off1 d) (k0_off1_inb d) fun _ =>
  .op (.store bufQ (Rect.unit (s := S32x512x256) (k0_off1 d) S1x512x256.size (k0_off1_inb d))
    (k0_pay10 (k0_pay9 w1)) Finset.univ (View.stores_vmem h_S1x512x256
      ((Memref.isWhole_whole _).storeExact_slice rfl _ (k0_off1_packedbf16 d)) (fun _ => rfl))
    (.inl rfl)) fun _ =>
  .op (.load arg2 (Rect.unit (s := S256x512) ![0, 0] S256x512.size
    inb_S256x512_S256x512_0_0).toLoadRect (View.loadsAt_vmem h_S256x512)) fun (w2 : Vec F S256x512 .bf16) =>
  loadO (k0_off2 d) (k0_off2_inb d) fun _ =>
  .op (.store bufO (Rect.unit (s := S32x256x512) (k0_off2 d) S1x256x512.size (k0_off2_inb d))
    (k0_pay11 w2) Finset.univ (View.stores_vmem h_S1x256x512
      ((Memref.isWhole_whole _).storeExact_slice rfl _ (k0_off2_packedbf16 d)) (fun _ => rfl))
    (.inl rfl)) fun _ =>
  loadAcc arg5 fun _ => storeAcc arg5 (k0_pay12 (F := F)) k

/-- The body. -/
def body (arg0 : Memref sig .tc .vmem S2x128x512 .bf16) (arg1 : Memref sig .tc .vmem S512x256 .bf16)
    (arg2 : Memref sig .tc .vmem S256x512 .bf16)
    (arg3 arg4 : Memref sig .tc .vmem S2x128x128x64 .bf16)
    (arg5 : Memref sig .tc .vmem S2x128x512 .f32) : P F :=
  .op .deviceId fun d =>
  .op (.load arg0 (Rect.unit (s := S2x128x512) ![0, 0, 0] S2x128x512.size
    inb_S2x128x512_S2x128x512_0_0_0).toLoadRect (View.loadsAt_vmem h_S2x128x512)) fun (w0 : Vec F S2x128x512 .bf16) =>
  fill arg1 arg2 arg5 d <| meet d <| ring arg3 arg4 arg5 d (k0_pay1 w0)

set_option maxRecDepth 65536 in
/-- The printed body is that program. -/
theorem body_eq (arg0 : Memref sig .tc .vmem S2x128x512 .bf16) (harg0 : arg0.IsWhole)
    (arg1 : Memref sig .tc .vmem S512x256 .bf16) (harg1 : arg1.IsWhole)
    (arg2 : Memref sig .tc .vmem S256x512 .bf16) (harg2 : arg2.IsWhole)
    (arg3 : Memref sig .tc .vmem S2x128x128x64 .bf16) (harg3 : arg3.IsWhole)
    (arg4 : Memref sig .tc .vmem S2x128x128x64 .bf16) (harg4 : arg4.IsWhole)
    (arg5 : Memref sig .tc .vmem S2x128x512 .f32) (harg5 : arg5.IsWhole) :
    cc0_body (F := F) arg0 harg0 arg1 harg1 arg2 harg2 arg3 harg3 arg4 harg4 arg5 harg5
        (Memref.whole cc0_scratch0) (Memref.isWhole_whole _) (Memref.whole cc0_scratch1)
        (Memref.isWhole_whole _) cc0_scratch2 cc0_scratch3 cc0_scratch4 cc0_scratch5 cc0_scratch6
        cc0_scratch7 cc0_scratch8 cc0_scratch9
      = body arg0 arg1 arg2 arg3 arg4 arg5 := by
  chain_rfl

end Cert.KernelIdeal.Ring

end
-- ==== Proof.Places.lean ====
/- Where the kernel's pieces lie: the ring's neighbours, the position of the chunk a hop carries, the
   slots of the two stacks, the semaphores by number, and what the kernel's own offset computations
   come to. -/
module

public import proofs.«01_k».proof.Proof.Body

@[expose] public section

noncomputable section

namespace Cert.KernelIdeal.Ring

open Idealize.ShloMosaic Idealize.SL.Sem Cert.KernelIdeal.Gen

/-! ## The ring -/

/-- The device to the right. -/
def right (c : Dev nD) : Dev nD := ⟨(c.val + 1) % 32, Nat.mod_lt _ (by decide)⟩
/-- The device to the left. -/
def left (c : Dev nD) : Dev nD := ⟨(c.val + 31) % 32, Nat.mod_lt _ (by decide)⟩

theorem right_left (c : Dev nD) : right (left c) = c := by revert c; decide
theorem left_right (c : Dev nD) : left (right c) = c := by revert c; decide

/-- The neighbour a direction sends to: `true` is to the right. -/
def nb : Bool → Dev nD → Dev nD
  | true, c => right c
  | false, c => left c

theorem nb_not (f : Bool) (c : Dev nD) : nb f (nb (!f) c) = c := by
  cases f
  · exact left_right c
  · exact right_left c

/-- The ring turned by one place. -/
def turn (f : Bool) : Dev nD ≃ Dev nD :=
  ⟨nb f, nb (!f), fun c => by simpa using nb_not (!f) c, fun c => nb_not f c⟩

/-- The position of the chunk that hop `h` of a direction carries away from device `c`. -/
def pos : Bool → Dev nD → ℕ → Dev nD
  | true, c, h => ⟨(c.val + 32 * h - h) % 32, Nat.mod_lt _ (by decide)⟩
  | false, c, h => ⟨(c.val + h) % 32, Nat.mod_lt _ (by decide)⟩

theorem pos_zero (f : Bool) (c : Dev nD) : pos f c 0 = c := by
  have := c.isLt
  cases f <;> exact Fin.ext (Nat.mod_eq_of_lt this)

/-- What arrives after a hop is what the neighbour sent. -/
theorem pos_nb (f : Bool) (c : Dev nD) (h : ℕ) : pos f (nb f c) (h + 1) = pos f c h := by
  have := c.isLt
  cases f <;> apply Fin.ext <;> dsimp only [pos, nb, right, left] <;> omega

/-- The hops of a direction. -/
def len : Bool → ℕ
  | true => 16
  | false => 15

theorem pos_inj_F {c : Dev nD} {h h' : ℕ} (hh : h < 32) (hh' : h' < 32)
    (e : pos true c h = pos true c h') : h = h' := by
  have := c.isLt
  have := congrArg Fin.val e; dsimp only [pos] at this; omega
theorem pos_inj_B {c : Dev nD} {h h' : ℕ} (hh : h < 32) (hh' : h' < 32)
    (e : pos false c h = pos false c h') : h = h' := by
  have := c.isLt
  have := congrArg Fin.val e; dsimp only [pos] at this; omega

/-! ## Semaphores by number -/

/-- The DMA semaphore of a number. -/
def num (n : ℕ) : DmaSem sig := ⟨n % 130, Nat.mod_lt _ (by decide)⟩

/-- A direction's and a matrix's send semaphore of a hop; `true` is the query weights. -/
def snd : Bool → Bool → ℕ → ℕ
  | true, true, h => 6 + h
  | true, false, h => 38 + h
  | false, true, h => 70 + h
  | false, false, h => 100 + h
/-- A direction's and a matrix's receive semaphore of a hop. -/
def rcv : Bool → Bool → ℕ → ℕ
  | true, true, h => 22 + h
  | true, false, h => 54 + h
  | false, true, h => 85 + h
  | false, false, h => 115 + h

theorem sem_s2 (h : Fin 16) : sem16 cc0_scratch2 h = num (snd true true h.val) := by revert h; decide +kernel
theorem sem_s3 (h : Fin 16) : sem16 cc0_scratch3 h = num (rcv true true h.val) := by revert h; decide +kernel
theorem sem_s4 (h : Fin 16) : sem16 cc0_scratch4 h = num (snd true false h.val) := by revert h; decide +kernel
theorem sem_s5 (h : Fin 16) : sem16 cc0_scratch5 h = num (rcv true false h.val) := by revert h; decide +kernel
theorem sem_s6 (h : Fin 15) : sem15 cc0_scratch6 h = num (snd false true h.val) := by revert h; decide +kernel
theorem sem_s7 (h : Fin 15) : sem15 cc0_scratch7 h = num (rcv false true h.val) := by revert h; decide +kernel
theorem sem_s8 (h : Fin 15) : sem15 cc0_scratch8 h = num (snd false false h.val) := by revert h; decide +kernel
theorem sem_s9 (h : Fin 15) : sem15 cc0_scratch9 h = num (rcv false false h.val) := by revert h; decide +kernel

/-- What a semaphore's number says: whether it receives, its direction, its matrix, its hop. -/
def role (n : ℕ) : Option (Bool × Bool × Bool × ℕ) :=
  if n < 6 then none
  else if n < 22 then some (false, true, true, n - 6)
  else if n < 38 then some (true, true, true, n - 22)
  else if n < 54 then some (false, true, false, n - 38)
  else if n < 70 then some (true, true, false, n - 54)
  else if n < 85 then some (false, false, true, n - 70)
  else if n < 100 then some (true, false, true, n - 85)
  else if n < 115 then some (false, false, false, n - 100)
  else some (true, false, false, n - 115)

theorem num_val {n : ℕ} (h : n < 130) : (num n).val = n := Nat.mod_eq_of_lt h

theorem snd_lt {f q : Bool} {h : ℕ} (hh : h < len f) : snd f q h < 130 := by
  cases f <;> cases q <;> dsimp only [snd, len] at * <;> omega
theorem rcv_lt {f q : Bool} {h : ℕ} (hh : h < len f) : rcv f q h < 130 := by
  cases f <;> cases q <;> dsimp only [rcv, len] at * <;> omega

theorem role_snd {f q : Bool} {h : ℕ} (hh : h < len f) :
    role (num (snd f q h)).val = some (false, f, q, h) := by
  rw [num_val (snd_lt hh)]
  revert h; cases f <;> cases q <;> decide +kernel
theorem role_rcv {f q : Bool} {h : ℕ} (hh : h < len f) :
    role (num (rcv f q h)).val = some (true, f, q, h) := by
  rw [num_val (rcv_lt hh)]
  revert h; cases f <;> cases q <;> decide +kernel

/-! ## The kernel's devices -/

theorem devR_eq (d : Dev nD) : devR d = right d := by revert d; decide +kernel
theorem devL_eq (d : Dev nD) : devL d = left d := by revert d; decide +kernel
theorem dev1_eq (d : Dev nD) : (⟨k0_dev1 d, k0_dev1_lt d⟩ : Dev nD) = left d := by revert d; decide +kernel
theorem dev2_eq (d : Dev nD) : (⟨k0_dev2 d, k0_dev2_lt d⟩ : Dev nD) = right d := by revert d; decide +kernel

/-! ## The kernel's offsets -/

theorem off3_eq (d : Dev nD) (h : Fin 16) :
    k0_off3 d (BitVec.ofNat 32 h.val) = ![(pos true d h.val).val, 0, 0] := by revert d h; decide +kernel
theorem off4_eq (d : Dev nD) (h : Fin 16) :
    k0_off4 d (BitVec.ofNat 32 h.val) = ![(pos true d h.val).val, 0, 0] := by revert d h; decide +kernel
theorem off5_eq (d : Dev nD) (h : Fin 16) :
    k0_off5 d (BitVec.ofNat 32 h.val) = ![(pos false d h.val).val, 0, 0] := by revert d h; decide +kernel
theorem off6_eq (d : Dev nD) (h : Fin 16) :
    k0_off6 d (BitVec.ofNat 32 h.val) = ![(pos false d h.val).val, 0, 0] := by revert d h; decide +kernel
theorem off7_eq (d : Dev nD) (h : Fin 16) :
    k0_off7 d (BitVec.ofNat 32 h.val) = ![(pos true d h.val).val, 0, 0] := by revert d h; decide +kernel
theorem off8_eq (d : Dev nD) (h : Fin 16) :
    k0_off8 d (BitVec.ofNat 32 h.val) = ![0, 4 * (pos true d h.val).val, 0, 0] := by revert d h; decide +kernel
theorem off9_eq (d : Dev nD) (h : Fin 16) :
    k0_off9 d (BitVec.ofNat 32 h.val) = ![1, 4 * (pos true d h.val).val, 0, 0] := by revert d h; decide +kernel
theorem off10_eq (d : Dev nD) (h : Fin 16) :
    k0_off10 d (BitVec.ofNat 32 h.val) = ![(pos true d h.val).val, 0, 0] := by revert d h; decide +kernel
theorem off11_eq (d : Dev nD) (r : Fin 15) :
    k0_off11 d (BitVec.ofNat 32 (1 + r.val)) = ![(pos false d (r.val + 1)).val, 0, 0] := by revert d r; decide +kernel
theorem off12_eq (d : Dev nD) (r : Fin 15) :
    k0_off12 d (BitVec.ofNat 32 (1 + r.val)) = ![0, 4 * (pos false d (r.val + 1)).val, 0, 0] := by revert d r; decide +kernel
theorem off13_eq (d : Dev nD) (r : Fin 15) :
    k0_off13 d (BitVec.ofNat 32 (1 + r.val)) = ![1, 4 * (pos false d (r.val + 1)).val, 0, 0] := by revert d r; decide +kernel
theorem off14_eq (d : Dev nD) (r : Fin 15) :
    k0_off14 d (BitVec.ofNat 32 (1 + r.val)) = ![(pos false d (r.val + 1)).val, 0, 0] := by revert d r; decide +kernel
theorem off15_eq (d : Dev nD) : k0_off15 d = ![(pos true d 16).val, 0, 0] := by revert d; decide +kernel
theorem off16_eq (d : Dev nD) : k0_off16 d = ![0, 4 * (pos true d 16).val, 0, 0] := by revert d; decide +kernel
theorem off17_eq (d : Dev nD) : k0_off17 d = ![1, 4 * (pos true d 16).val, 0, 0] := by revert d; decide +kernel
theorem off18_eq (d : Dev nD) : k0_off18 d = ![(pos true d 16).val, 0, 0] := by revert d; decide +kernel

/-! ## The slots -/

theorem inbQ (s : Dev nD) : ∀ a, (![s.val, 0, 0] : Fin 3 → ℕ) a + S1x512x256.size a ≤ S32x512x256.size a := by
  have := s.isLt
  intro a; fin_cases a <;> simp [nD] at * <;> omega
theorem inbO (s : Dev nD) : ∀ a, (![s.val, 0, 0] : Fin 3 → ℕ) a + S1x256x512.size a ≤ S32x256x512.size a := by
  have := s.isLt
  intro a; fin_cases a <;> simp [nD] at * <;> omega

/-- Slot `s` of the query stack. -/
abbrev mQ (s : Dev nD) : Memref sig .tc .vmem S512x256 .bf16 := viewQ ![s.val, 0, 0] (inbQ s)
/-- Slot `s` of the output stack. -/
abbrev mO (s : Dev nD) : Memref sig .tc .vmem S256x512 .bf16 := viewO ![s.val, 0, 0] (inbO s)
/-- Slot `s` of the query stack, as a block of it. -/
abbrev rQ (s : Dev nD) : Rect S32x512x256 := Rect.unit (s := S32x512x256) ![s.val, 0, 0] S1x512x256.size (inbQ s)
/-- Slot `s` of the output stack, as a block of it. -/
abbrev rO (s : Dev nD) : Rect S32x256x512 := Rect.unit (s := S32x256x512) ![s.val, 0, 0] S1x256x512.size (inbO s)

theorem mQ_set (s : Dev nD) : (mQ s).view.set = (rQ s).set :=
  (View.set_reshape _ _).trans (View.set_slice_whole _ _)
theorem mO_set (s : Dev nD) : (mO s).view.set = (rO s).set :=
  (View.set_reshape _ _).trans (View.set_slice_whole _ _)

theorem mem_mQ (s : Dev nD) (i : S32x512x256.Idx) : i ∈ (mQ s).view.set ↔ i 0 = s := by
  rw [mQ_set, Rect.mem_set_unit, Fin.forall_fin_succ, Fin.forall_fin_two]
  have h1 : (i 1).val < 512 := (i 1).isLt
  have h2 : (i 2).val < 256 := (i 2).isLt
  show ((s.val ≤ (i 0).val ∧ (i 0).val < s.val + 1) ∧ (0 ≤ (i 1).val ∧ (i 1).val < 0 + 512)
    ∧ 0 ≤ (i 2).val ∧ (i 2).val < 0 + 256) ↔ _
  constructor
  · intro h; exact Fin.ext (by omega)
  · intro h
    have h' : (i 0).val = s.val := congrArg Fin.val h
    omega
theorem mem_mO (s : Dev nD) (i : S32x256x512.Idx) : i ∈ (mO s).view.set ↔ i 0 = s := by
  rw [mO_set, Rect.mem_set_unit, Fin.forall_fin_succ, Fin.forall_fin_two]
  have h1 : (i 1).val < 256 := (i 1).isLt
  have h2 : (i 2).val < 512 := (i 2).isLt
  show ((s.val ≤ (i 0).val ∧ (i 0).val < s.val + 1) ∧ (0 ≤ (i 1).val ∧ (i 1).val < 0 + 256)
    ∧ 0 ≤ (i 2).val ∧ (i 2).val < 0 + 512) ↔ _
  constructor
  · intro h; exact Fin.ext (by omega)
  · intro h
    have h' : (i 0).val = s.val := congrArg Fin.val h
    omega

section
variable {F : FTy → Type} [FloatOps F]

/-- A device's query weights, as a slot holds them. -/
def shardQ (w : Vec F S512x256 .bf16) : Vec F S1x512x256 .bf16 := k0_pay10 (k0_pay9 w)
/-- A device's output weights, as a slot holds them. -/
def shardO (w : Vec F S256x512 .bf16) : Vec F S1x256x512 .bf16 := k0_pay11 w

/-- The place inside its slot of a place of the query stack. -/
def inQ (i : S32x512x256.Idx) : S1x512x256.Idx := fun a => ⟨if a = 0 then 0 else (i a).val, by
  have := (i a).isLt; revert this; fin_cases a <;> simp⟩
/-- The place inside its slot of a place of the output stack. -/
def inO (i : S32x256x512.Idx) : S1x256x512.Idx := fun a => ⟨if a = 0 then 0 else (i a).val, by
  have := (i a).isLt; revert this; fin_cases a <;> simp⟩

/-- The query stack when every device's shard has reached its slot. -/
def stackQ (wq : Dev nD → Vec F S512x256 .bf16) : S32x512x256.Idx → Elt F .bf16 :=
  fun i => shardQ (wq (i 0)) (inQ i)
/-- The output stack when every device's shard has reached its slot. -/
def stackO (wo : Dev nD → Vec F S256x512 .bf16) : S32x256x512.Idx → Elt F .bf16 :=
  fun i => shardO (wo (i 0)) (inO i)

theorem emb_rQ (s : Dev nD) (j : S1x512x256.Idx) :
    (rQ s).emb j 0 = s ∧ inQ ((rQ s).emb j) = j := by
  have hv : ∀ a, ((rQ s).emb j a).val = (![s.val, 0, 0] : Fin 3 → ℕ) a + (j a).val := fun a => by
    rw [Rect.emb_apply]; show (![s.val, 0, 0] : Fin 3 → ℕ) a + 1 * (j a).val = _; omega
  have h0 : (j 0).val = 0 := Nat.lt_one_iff.mp (j 0).isLt
  refine ⟨Fin.ext ((hv 0).trans (by rw [h0]; rfl)), funext fun a => Fin.ext ?_⟩
  show (if a = 0 then 0 else ((rQ s).emb j a).val) = _
  split
  · next h => subst h; exact h0.symm
  · next h => rw [hv]; revert h; fin_cases a <;> simp
theorem emb_rO (s : Dev nD) (j : S1x256x512.Idx) :
    (rO s).emb j 0 = s ∧ inO ((rO s).emb j) = j := by
  have hv : ∀ a, ((rO s).emb j a).val = (![s.val, 0, 0] : Fin 3 → ℕ) a + (j a).val := fun a => by
    rw [Rect.emb_apply]; show (![s.val, 0, 0] : Fin 3 → ℕ) a + 1 * (j a).val = _; omega
  have h0 : (j 0).val = 0 := Nat.lt_one_iff.mp (j 0).isLt
  refine ⟨Fin.ext ((hv 0).trans (by rw [h0]; rfl)), funext fun a => Fin.ext ?_⟩
  show (if a = 0 then 0 else ((rO s).emb j a).val) = _
  split
  · next h => subst h; exact h0.symm
  · next h => rw [hv]; revert h; fin_cases a <;> simp

/-- Reading a slot of the full stack gives the device's shard. -/
theorem read_stackQ (wq : Dev nD → Vec F S512x256 .bf16) (s : Dev nD) :
    (bufQ.access (rQ s)).read (Elt F) (stackQ wq) = shardQ (wq s) := by
  funext j
  show shardQ (wq ((rQ s).emb j 0)) (inQ ((rQ s).emb j)) = _
  rw [(emb_rQ s j).1, (emb_rQ s j).2]
theorem read_stackO (wo : Dev nD → Vec F S256x512 .bf16) (s : Dev nD) :
    (bufO.access (rO s)).read (Elt F) (stackO wo) = shardO (wo s) := by
  funext j
  show shardO (wo ((rO s).emb j 0)) (inO ((rO s).emb j)) = _
  rw [(emb_rO s j).1, (emb_rO s j).2]

/-- Writing a device's shard into its slot makes the slot what the full stack has there. -/
theorem write_stackQ (wq : Dev nD → Vec F S512x256 .bf16) (s : Dev nD) (g : S32x512x256.Idx → Elt F .bf16)
    (i : S32x512x256.Idx) (hi : i ∈ (mQ s).view.set) :
    (bufQ.access (rQ s)).write (Elt F) g (shardQ (wq s)) Finset.univ i = stackQ wq i := by
  rw [mQ_set, ← View.set_slice_whole cc0_scratch0 (rQ s)] at hi
  obtain ⟨j, -, rfl⟩ := Finset.mem_map.mp hi
  refine (View.write_emb_of_mem _ _ (Finset.mem_univ j)).trans ?_
  exact (congrFun (read_stackQ wq s) j).symm
theorem write_stackO (wo : Dev nD → Vec F S256x512 .bf16) (s : Dev nD) (g : S32x256x512.Idx → Elt F .bf16)
    (i : S32x256x512.Idx) (hi : i ∈ (mO s).view.set) :
    (bufO.access (rO s)).write (Elt F) g (shardO (wo s)) Finset.univ i = stackO wo i := by
  rw [mO_set, ← View.set_slice_whole cc0_scratch1 (rO s)] at hi
  obtain ⟨j, -, rfl⟩ := Finset.mem_map.mp hi
  refine (View.write_emb_of_mem _ _ (Finset.mem_univ j)).trans ?_
  exact (congrFun (read_stackO wo s) j).symm
end

end Cert.KernelIdeal.Ring

end
-- ==== Proof.Sched.lean ====
/- The kernel's protocol: what every semaphore cell is paid with, by whom and how much, what each
   device owes at launch, and the order of the waits. -/
module

public import proofs.«01_k».proof.Proof.Places
public import proofs.«01_k».proof.Proof.Gen.KernelIdeal.Frame
public import Idealize.ShloMosaic.Lib.Pipeline.RegionTalk

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The ghost state: the pipeline's copy of the rounds algebra and the ring's. -/
abbrev UU : Type := UR sig nD τ × URounds (GSem nD τ sig) Bool

local notation "𝕄" => MT nD τ sig Unit (Elt F) ℕ UU ℕ

/-- The pipeline's part. -/
abbrev EP : Emb (UR sig nD τ) (MT nD τ sig Unit (Elt F) ℕ UU ℕ) := embL
/-- The ring's part. -/
abbrev ER : Emb (URounds (GSem nD τ sig) Bool) (MT nD τ sig Unit (Elt F) ℕ UU ℕ) := embR

/-- No loop's variant is needed. -/
abbrev 𝒱₀ : Variants := Variants.none

/-! ## Cells -/

/-- A device's DMA cell of a number. -/
abbrev dc (c : Dev nD) (n : ℕ) : GSem nD τ sig := ((c : Thread nD τ), .dma (num n))
/-- A device's barrier cell. -/
abbrev bc (c : Dev nD) : GSem nD τ sig := ((c : Thread nD τ), .reg bar)

/-- What a transfer of one shard credits; `true` is the query weights. -/
def N : Bool → ℕ
  | true => (mQ 0).view.dmaCredit
  | false => (mO 0).view.dmaCredit

theorem N_pos (q : Bool) : 0 < N q := by
  cases q
  · exact View.dmaCredit_pos _ (by decide)
  · exact View.dmaCredit_pos _ (by decide)

/-! ## What the cells are paid with -/

variable (wq : Dev nD → Vec F S512x256 .bf16) (wo : Dev nD → Vec F S256x512 .bf16)

/-- Slot `s` of a device's stack, at the shard it is to hold. -/
def part (q : Bool) (c s : Dev nD) (sh : PosShare TreeShare) : sProp 𝕄 :=
  match q with
  | true => (mQ s).view.loc (c : Thread nD τ) ↦[(mQ s).view.set]{sh} stackQ wq
  | false => (mO s).view.loc (c : Thread nD τ) ↦[(mO s).view.set]{sh} stackO wo

/-- Slot `s` of a device's stack, at anything. -/
def anyPart (q : Bool) (c s : Dev nD) : sProp 𝕄 :=
  match q with
  | true => iprop(∃ f, (mQ s).view.loc (c : Thread nD τ) ↦[(mQ s).view.set]{fullShare} f)
  | false => iprop(∃ f, (mO s).view.loc (c : Thread nD τ) ↦[(mO s).view.set]{fullShare} f)

/-- The share of a slot that a hop and its chunk have between them: the device's own shard serves both
directions, every other shard one. -/
def tot : Bool → ℕ → PosShare TreeShare
  | true, 0 => fullShare.left
  | false, 0 => fullShare.right
  | _, _ + 1 => fullShare

/-- Leave to write the slot a hop of the device fills at its neighbour. -/
def dst (f q : Bool) (c : Dev nD) (h : ℕ) : sProp 𝕄 :=
  iprop(anyPart q (nb f c) (pos f c h) ∗ reached ER (dc (nb f c) (rcv f q h)) 0)

/-- What a neighbour pays the device's barrier cell: leave to write its slots. -/
def barPay (c : Dev nD) (f : Bool) : sProp 𝕄 :=
  bigSep (Finset.range (len f)) fun h => iprop(dst (F := F) f true c h ∗ dst (F := F) f false c h)

/-- What a DMA cell is paid with: the share lent, or the slot filled. -/
def dmaPay (c : Dev nD) (n : ℕ) : sProp 𝕄 :=
  match role n with
  | none => iprop(emp)
  | some (false, f, q, h) => part wq wo q c (pos f c h) (tot f h).left
  | some (true, f, q, h) => part wq wo q c (pos f c (h + 1)) fullShare

/-- What a payment of a DMA cell amounts to. -/
def amt (n : ℕ) : ℕ :=
  match role n with
  | none => 1
  | some (_, _, q, _) => N q

theorem amt_pos (n : ℕ) : 0 < amt n := by
  unfold amt; split
  · exact Nat.one_pos
  · exact N_pos _

/-- The ring's cells. -/
abbrev Live (g : GSem nD τ sig) : Prop := g.1.2 = .tc ∧
  match g.2 with
  | .reg s => s = bar
  | .dma s => 6 ≤ s.val

/-- A cell's duties in its one round: a barrier cell has one for each neighbour. -/
def dutiesOf (sm : SemLoc sig) : Finset Bool :=
  match sm with
  | .reg _ => {true, false}
  | .dma _ => {true}

open Classical in
/-- The schedule. -/
def sched : Rounds.Schedule (GSem nD τ sig) Bool 𝕄 where
  duties g r := if r = 0 ∧ Live g then dutiesOf g.2 else ∅
  unitless _ := False
  amount g _ _ := match g.2 with
    | .reg _ => 1
    | .dma s => amt s.val
  payload g _ d := match g.2 with
    | .reg _ => barPay g.1.1 d
    | .dma s => dmaPay wq wo g.1.1 s.val
  amount_pos g _ _ _ := by
    cases g.2 with
    | reg _ => exact Nat.one_pos
    | dma s => exact amt_pos _

instance part_storable (q : Bool) (c s : Dev nD) (sh : PosShare TreeShare) :
    BI.Storable (upEmb : UEmb _ 𝕄) (part wq wo q c s sh) := by
  cases q <;> unfold part <;> infer_instance
instance anyPart_storable (q : Bool) (c s : Dev nD) :
    BI.Storable (upEmb : UEmb _ 𝕄) (anyPart (F := F) q c s) := by
  cases q <;> unfold anyPart <;> infer_instance

instance sched_storable (g : GSem nD τ sig) (r : ℕ) (d : Bool) :
    BI.Storable (upEmb : UEmb _ 𝕄) ((sched (F := F) wq wo).payload g r d) := by
  obtain ⟨t, sm⟩ := g
  cases sm with
  | reg _ =>
    show BI.Storable upEmb (barPay t.1 d)
    unfold barPay dst; infer_instance
  | dma s =>
    show BI.Storable upEmb (dmaPay wq wo t.1 s.val)
    unfold dmaPay; split <;> infer_instance

/-! ## The schedule at the ring's cells -/

section
variable (c : Dev nD) {n : ℕ}

theorem live_dc (h6 : 6 ≤ n) (hn : n < 130) : Live (dc c n) := ⟨rfl, by
  show 6 ≤ (num n).val; rw [num_val hn]; exact h6⟩
theorem live_bc : Live (bc c) := ⟨rfl, rfl⟩

theorem duties_dc (h6 : 6 ≤ n) (hn : n < 130) : (sched (F := F) wq wo).duties (dc c n) 0 = {true} := by
  unfold sched; exact if_pos ⟨rfl, live_dc c h6 hn⟩
theorem duties_bc : (sched (F := F) wq wo).duties (bc c) 0 = {true, false} := by
  unfold sched; exact if_pos ⟨rfl, live_bc c⟩
theorem duties_later (g : GSem nD τ sig) : ∀ r, 1 ≤ r → (sched (F := F) wq wo).duties g r = ∅ := fun r hr => by
  unfold sched; exact if_neg fun h => by omega
theorem amount_dc (hn : n < 130) (d : Bool) : (sched (F := F) wq wo).amount (dc c n) 0 d = amt n := by
  show amt (num n).val = _; rw [num_val hn]
theorem amount_bc (d : Bool) : (sched (F := F) wq wo).amount (bc c) 0 d = 1 := rfl
theorem payload_dc (hn : n < 130) (d : Bool) : (sched (F := F) wq wo).payload (dc c n) 0 d = dmaPay wq wo c n := by
  show dmaPay wq wo c (num n).val = _; rw [num_val hn]
theorem payload_bc (d : Bool) : (sched (F := F) wq wo).payload (bc c) 0 d = barPay c d := rfl
theorem expect_dc (h6 : 6 ≤ n) (hn : n < 130) : (sched (F := F) wq wo).expect (dc c n) 0 = amt n := by
  unfold Schedule.expect Schedule.amountOf
  rw [duties_dc wq wo c h6 hn, Finset.sum_singleton, amount_dc wq wo c hn]
theorem expect_bc : (sched (F := F) wq wo).expect (bc c) 0 = 2 := by
  unfold Schedule.expect Schedule.amountOf
  rw [duties_bc wq wo c, Finset.sum_pair (by decide), amount_bc, amount_bc]
theorem rest_dc (h6 : 6 ≤ n) (hn : n < 130) :
    bigSep ((sched (F := F) wq wo).duties (dc c n) 0 \ ∅) (fun d => (sched wq wo).payload (dc c n) 0 d)
      = dmaPay wq wo c n := by
  rw [Finset.sdiff_empty, duties_dc wq wo c h6 hn, bigSep_singleton, payload_dc wq wo c hn]
theorem rest_bc :
    bigSep ((sched (F := F) wq wo).duties (bc c) 0 \ ∅) (fun d => (sched wq wo).payload (bc c) 0 d)
      = iprop(barPay c true ∗ barPay c false) := by
  rw [Finset.sdiff_empty, duties_bc wq wo c, BI.bigSep_insert (by decide), bigSep_singleton, payload_bc, payload_bc]
  rfl
end

section
variable (c : Dev nD) {f q : Bool} {h : ℕ}

theorem six_snd : 6 ≤ snd f q h := by cases f <;> cases q <;> dsimp only [snd] <;> omega
theorem six_rcv : 6 ≤ rcv f q h := by cases f <;> cases q <;> dsimp only [rcv] <;> omega
theorem amt_snd (hh : h < len f) : amt (snd f q h) = N q := by
  unfold amt; rw [← num_val (snd_lt hh), role_snd hh]
theorem amt_rcv (hh : h < len f) : amt (rcv f q h) = N q := by
  unfold amt; rw [← num_val (rcv_lt hh), role_rcv hh]
theorem pay_snd (hh : h < len f) : dmaPay wq wo c (snd f q h) = part wq wo q c (pos f c h) (tot f h).left := by
  unfold dmaPay; rw [← num_val (snd_lt hh), role_snd hh]
theorem pay_rcv (hh : h < len f) : dmaPay wq wo c (rcv f q h) = part wq wo q c (pos f c (h + 1)) fullShare := by
  unfold dmaPay; rw [← num_val (rcv_lt hh), role_rcv hh]
end

/-! ## What is owed, and the order of the waits -/

/-- What a device owes in one direction and for one matrix, hops `a` on being still to launch. -/
def owL (f q : Bool) (c : Dev nD) (a : ℕ) : CellTallies nD τ sig Unit :=
  ∑ h ∈ Finset.Ico a (len f), tallyAt (dc (nb f c) (rcv f q h)) () (N q)

/-- What a device owes, hops `a` to the right and `b` to the left on being still to launch. -/
def ow (c : Dev nD) (a b : ℕ) : CellTallies nD τ sig Unit :=
  (owL true true c a + owL true false c a) + (owL false true c b + owL false false c b)

/-- What a device owes at launch. -/
def owed₀ (c : Dev nD) : CellTallies nD τ sig Unit :=
  (ow c 0 0 + tallyAt (bc (right c)) () 1) + tallyAt (bc (left c)) () 1

theorem owL_succ {f q : Bool} {c : Dev nD} {a : ℕ} (h : a < len f) :
    owL f q c a = owL f q c (a + 1) + tallyAt (dc (nb f c) (rcv f q a)) () (N q) := by
  unfold owL
  have e : Finset.Ico a (len f) = insert a (Finset.Ico (a + 1) (len f)) := by
    ext x; rw [Finset.mem_insert, Finset.mem_Ico, Finset.mem_Ico]; omega
  rw [e, Finset.sum_insert (by rw [Finset.mem_Ico]; omega), add_comm]
theorem owL_len {f q : Bool} {c : Dev nD} {a : ℕ} (h : len f ≤ a) : owL f q c a = 0 := by
  unfold owL; rw [Finset.Ico_eq_empty (by omega), Finset.sum_empty]

/-- Every TensorCore's cells have a level. -/
def L (g : GSem nD τ sig) : Finset Unit := if g.1.2 = .tc then {()} else ∅
/-- The barrier's cells at 1, the cell a hop fills at two more than the hop, the rest at 0. -/
def lv (g : GSem nD τ sig) (_ : Unit) : ℕ :=
  match g.2 with
  | .reg _ => 1
  | .dma s => match role s.val with
    | some (true, _, _, h) => h + 2
    | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_rcv {c : Dev nD} {f q : Bool} {h : ℕ} (hh : h < len f) (u : Unit) : lv (dc c (rcv f q h)) u = h + 2 := by
  unfold lv; dsimp only; rw [role_rcv hh]
theorem lv_snd {c : Dev nD} {f q : Bool} {h : ℕ} (hh : h < len f) (u : Unit) : lv (dc c (snd f q h)) u = 0 := by
  unfold lv; dsimp only; rw [role_snd hh]

theorem tally_pos {g g' : GSem nD τ sig} {n : ℕ} {u : Unit} (h : 0 < tallyAt g () n g' u) : g' = g := by
  rw [tallyAt_apply] at h
  by_contra hne
  rw [if_neg fun e => hne e.1] at h
  exact absurd h (Nat.lt_irrefl 0)

theorem owL_pos {f q : Bool} {c : Dev nD} {a : ℕ} {g : GSem nD τ sig} {u : Unit} (hg : 0 < owL f q c a g u) :
    u ∈ L g ∧ a + 2 ≤ lv g u := by
  unfold owL at hg
  rw [Finset.sum_apply, Finsupp.finset_sum_apply] at hg
  obtain ⟨h, hm, hp⟩ := Finset.exists_ne_zero_of_sum_ne_zero (Nat.pos_iff_ne_zero.mp hg)
  rw [Finset.mem_Ico] at hm
  obtain rfl := tally_pos (Nat.pos_of_ne_zero hp)
  rw [L_tc, lv_rcv hm.2]
  exact ⟨Finset.mem_singleton_self _, by omega⟩

theorem ow_pos {c : Dev nD} {a b k : ℕ} (ha : k ≤ a) (hb : k ≤ b) {g : GSem nD τ sig} {u : Unit}
    (hg : 0 < ow c a b g u) : u ∈ L g ∧ k + 2 ≤ lv g u := by
  have e : ow c a b g u = (owL true true c a g u + owL true false c a g u)
    + (owL false true c b g u + owL false false c b g u) := rfl
  rw [e] at hg
  rcases Nat.lt_or_ge 0 (owL true true c a g u) with h | h
  · exact (owL_pos h).imp_right fun h => by omega
  rcases Nat.lt_or_ge 0 (owL true false c a g u) with h | h
  · exact (owL_pos h).imp_right fun h => by omega
  rcases Nat.lt_or_ge 0 (owL false true c b g u) with h | h
  · exact (owL_pos h).imp_right fun h => by omega
  rcases Nat.lt_or_ge 0 (owL false false c b g u) with h | h
  · exact (owL_pos h).imp_right fun h => by omega
  omega

theorem owed₀_pos {c : Dev nD} {g : GSem nD τ sig} {u : Unit} (hg : 0 < owed₀ c g u) : u ∈ L g ∧ 0 < lv g u := by
  have e : owed₀ c g u = (ow c 0 0 g u + tallyAt (bc (right c)) () 1 g u) + tallyAt (bc (left c)) () 1 g u := rfl
  rw [e] at hg
  rcases Nat.lt_or_ge 0 (ow c 0 0 g u) with h | h
  · exact (ow_pos (k := 0) le_rfl le_rfl h).imp_right fun h => by omega
  rcases Nat.lt_or_ge 0 (tallyAt (bc (right c)) () 1 g u) with h | h
  · obtain rfl := tally_pos h
    exact ⟨Finset.mem_singleton_self _, Nat.one_pos⟩
  rcases Nat.lt_or_ge 0 (tallyAt (bc (left c)) () 1 g u) with h | h
  · obtain rfl := tally_pos h
    exact ⟨Finset.mem_singleton_self _, Nat.one_pos⟩
  omega

/-- A wait below what is owed is allowed. -/
theorem mayWait {c : Dev nD} {sm : SemLoc sig} {a b k : ℕ} (ha : k ≤ a) (hb : k ≤ b)
    (hl : lv ((c : Thread nD τ), sm) () < k + 2) :
    (levAts L lv : sProp 𝕄) ⊢ MayWait (c : Thread nD τ) sm () (ow c a b) :=
  MayOwe.of_cut (L := L) (lev := lv) (k + 1)
    (fun p hp => by rw [Finset.mem_singleton.mp hp, L_tc]; exact Finset.mem_singleton_self _)
    (fun g u hg => (ow_pos ha hb hg).1)
    (fun p hp => by rw [Finset.mem_singleton.mp hp]; exact Nat.lt_succ_iff.mp hl)
    (fun g u hg => by have := (ow_pos ha hb hg).2; omega)

end Cert.KernelIdeal.Ring

end
-- ==== Proof.Steps.lean ====
/- The kernel's operations, one rule each: a send, a wait, the two signals and their wait, a load and a
   store of a slot, a load of a window and the accumulator's update. -/
module

public import proofs.«01_k».proof.Proof.Sched

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (wq : Dev nD → Vec F S512x256 .bf16) (wo : Dev nD → Vec F S256x512 .bf16)

/-- A program run on a device to a condition on its end. -/
abbrev run (c : Dev nD) (p : P F) (Q : PUnit → sProp 𝕄) : sProp 𝕄 :=
  wp frame (wpE (defs₀ (F := F)) 𝒱₀ (c : Thread nD τ) none) Set.univ p Q

/-! ## The cells' invariants -/

/-- The barrier cells. -/
def barEmb : Dev nD ↪ GSem nD τ sig := ⟨bc, fun c c' h => by
  have := congrArg (fun g : GSem nD τ sig => g.1.1) h; exact this⟩

theorem num_inj {n n' : ℕ} (h : n < 130) (h' : n' < 130) (e : num n = num n') : n = n' := by
  have := congrArg Fin.val e; rwa [num_val h, num_val h'] at this

/-- The DMA cells of the ring. -/
def dmaEmb : Dev nD × Fin 124 ↪ GSem nD τ sig := ⟨fun p => dc p.1 (6 + p.2.val), fun p p' h => by
  have h1 : p.1 = p'.1 := congrArg (fun g : GSem nD τ sig => g.1.1) h
  have h2 : (SemLoc.dma (num (6 + p.2.val)) : SemLoc sig) = .dma (num (6 + p'.2.val)) :=
    congrArg (fun g : GSem nD τ sig => g.2) h
  have h3 := num_inj (by omega) (by omega) (SemLoc.dma.inj h2)
  exact Prod.ext h1 (Fin.ext (by omega))⟩

/-- The barrier cells. -/
def barCells : Finset (GSem nD τ sig) := Finset.univ.map barEmb
/-- The ring's DMA cells. -/
def dmaCells : Finset (GSem nD τ sig) := Finset.univ.map dmaEmb

theorem mem_bar (c : Dev nD) : bc c ∈ barCells := Finset.mem_map_of_mem barEmb (Finset.mem_univ c)
theorem mem_dma (c : Dev nD) {n : ℕ} (h6 : 6 ≤ n) (hn : n < 130) : dc c n ∈ dmaCells := by
  have := Finset.mem_map_of_mem dmaEmb (Finset.mem_univ (c, (⟨n - 6, by omega⟩ : Fin 124)))
  have e : dmaEmb (c, (⟨n - 6, by omega⟩ : Fin 124)) = dc c n := by
    show dc c (6 + (n - 6)) = _; rw [Nat.add_sub_cancel' h6]
  rwa [e] at this

/-- The ring's cells, kept from being counted out one by one. -/
def allCells : Finset (GSem nD τ sig) :=
  (Classical.choice ⟨⟨barCells ∪ dmaCells, rfl⟩⟩ : {S : Finset (GSem nD τ sig) // S = barCells ∪ dmaCells}).1
theorem allCells_eq : allCells = barCells ∪ dmaCells :=
  (Classical.choice ⟨⟨barCells ∪ dmaCells, rfl⟩⟩ : {S : Finset (GSem nD τ sig) // S = barCells ∪ dmaCells}).2

/-- Every cell's invariant, at the name the launch gave it. -/
def invAll (K : GSem nD τ sig → ℕ) : sProp 𝕄 :=
  bigSep allCells fun g => cellInv ER (sched wq wo) (K g) g

instance invAll_persistent (K : GSem nD τ sig → ℕ) : BI.Persistent (invAll wq wo K) := by
  unfold invAll; infer_instance

theorem inv_bc (K : GSem nD τ sig → ℕ) (c : Dev nD) :
    invAll wq wo K ⊢ cellInv ER (sched wq wo) (K (bc c)) (bc c) :=
  bigSep_elim (by rw [allCells_eq]; exact Finset.mem_union_left _ (mem_bar c))
theorem inv_dc (K : GSem nD τ sig → ℕ) (c : Dev nD) {n : ℕ} (h6 : 6 ≤ n) (hn : n < 130) :
    invAll wq wo K ⊢ cellInv ER (sched wq wo) (K (dc c n)) (dc c n) :=
  bigSep_elim (by rw [allCells_eq]; exact Finset.mem_union_right _ (mem_dma c h6 hn))

/-! ## Sends -/

theorem part_true (c s : Dev nD) (sh : PosShare TreeShare) : part wq wo true c s sh
    = ((mQ s).view.loc (c : Thread nD τ) ↦[(mQ s).view.set]{sh} (stackQ wq) : sProp 𝕄) := rfl
theorem part_false (c s : Dev nD) (sh : PosShare TreeShare) : part wq wo false c s sh
    = ((mO s).view.loc (c : Thread nD τ) ↦[(mO s).view.set]{sh} (stackO wo) : sProp 𝕄) := rfl

/-- What a send takes and gives, for one direction, matrix and hop. -/
def sendPre (K : GSem nD τ sig → ℕ) (f q : Bool) (c : Dev nD) (h : ℕ) : sProp 𝕄 :=
  iprop(invAll wq wo K ∗ part wq wo q c (pos f c h) (tot f h).left ∗ dst (F := F) f q c h
    ∗ dutyTok ER (dc c (snd f q h)) 0 true ∗ reached ER (dc c (snd f q h)) 0
    ∗ dutyTok ER (dc (nb f c) (rcv f q h)) 0 true)

theorem any_true (c s : Dev nD) : anyPart (F := F) true c s
    = iprop(∃ f, ((mQ s).view.loc (c : Thread nD τ) ↦[(mQ s).view.set]{fullShare} f : sProp 𝕄)) := rfl
theorem any_false (c s : Dev nD) : anyPart (F := F) false c s
    = iprop(∃ f, ((mO s).view.loc (c : Thread nD τ) ↦[(mO s).view.set]{fullShare} f : sProp 𝕄)) := rfl

theorem copyQ (s : Dev nD) (fs fd : S32x512x256.Idx → Elt F .bf16) (i : S32x512x256.Idx)
    (hi : i ∈ (mQ s).view.set) :
    (mQ s).view.write (Elt F) fd ((mQ s).view.read (Elt F) fs) Finset.univ i = fs i := by
  obtain ⟨j, -, rfl⟩ := Finset.mem_map.mp hi
  exact View.write_emb_of_mem _ _ (Finset.mem_univ j)
theorem copyO (s : Dev nD) (fs fd : S32x256x512.Idx → Elt F .bf16) (i : S32x256x512.Idx)
    (hi : i ∈ (mO s).view.set) :
    (mO s).view.write (Elt F) fd ((mO s).view.read (Elt F) fs) Finset.univ i = fs i := by
  obtain ⟨j, -, rfl⟩ := Finset.mem_map.mp hi
  exact View.write_emb_of_mem _ _ (Finset.mem_univ j)

theorem credQ (s : Dev nD) (n : DmaSem sig) : (mQ s).view.amount (.dma n) = N true := rfl
theorem credO (s : Dev nD) (n : DmaSem sig) : (mO s).view.amount (.dma n) = N false := rfl
theorem routes_all (c e : Dev nD) : τ.routes (c : Thread nD τ) (e : Thread nD τ) = true := by routes

theorem sendQ_step (K : GSem nD τ sig → ℕ) (f : Bool) (c : Dev nD) {h : ℕ} (hh : h < len f)
    {e : Dev nD} (he : e = nb f c) {s r : DmaSem sig} (hs : s = num (snd f true h)) (hr : r = num (rcv f true h))
    {o : Fin 3 → ℕ} (ho : o = ![(pos f c h).val, 0, 0])
    (hi : ∀ a, o a + S1x512x256.size a ≤ S32x512x256.size a)
    (hw : (Rect.unit (s := S32x512x256) o S1x512x256.size hi).WholeWords (EltTy.packing .bf16))
    (O : CellTallies nD τ sig Unit) (W : Waits sig Unit) (k : P F) (Q : PUnit → sProp 𝕄) :
    iprop(sendPre wq wo K f true c h
        ∗ owes (c : Thread nD τ) (O + tallyAt (dc (nb f c) (rcv f true h)) () (N true)) W)
      ⊢ iprop(((cred (tallyAt (dc c (snd f true h)) () (N true)) ∗ owes (c : Thread nD τ) O W) -∗ run c k Q)
        -∗ run c (sendQ e s r o hi hw k) Q) := by
  subst he hs hr ho
  unfold sendPre dst sendQ
  rw [part_true, any_true]
  iintro ⟨⟨#HI, Hsrc, ⟨Hdst, #Hrr⟩, Hts, #Hrs, Htr⟩, HO⟩ Hk
  icases Hdst with ⟨%fd, Hdst⟩
  iapply (Rounds.wp_send_pointsTo 𝒱₀ ER (sched wq wo) (c : Thread nD τ) none
      (c' := (nb f c : Thread nD τ)) (src := mQ (pos f c h)) (dst := mQ (pos f c h))
      (sS := .dma (num (snd f true h))) (sem := .dma (num (rcv f true h))) (q := (tot f h).left)
      (fs := stackQ wq) (κ₁ := K (dc c (snd f true h))) (κ₂ := K (dc (nb f c) (rcv f true h)))
      (r₁ := 0) (r₂ := 0) (d₁ := true) (d₂ := true) (fd := fd)
      (by rw [duties_dc wq wo c six_snd (snd_lt hh)]; exact Finset.mem_singleton_self _)
      (by rw [duties_dc wq wo (nb f c) six_rcv (rcv_lt hh)]; exact Finset.mem_singleton_self _)
      () () (N true) (credQ _ _)
      ((amount_dc wq wo c (snd_lt hh) true).trans (amt_snd hh))
      ((amount_dc wq wo (nb f c) (rcv_lt hh) true).trans (amt_rcv hh)) O rfl (W := W)
      (by rw [payload_dc wq wo c (snd_lt hh), pay_snd wq wo c hh]; exact BI.Entails.refl _)
      (by
        rw [payload_dc wq wo (nb f c) (rcv_lt hh), pay_rcv wq wo (nb f c) hh, pos_nb]
        exact Entails.of_eq (pointsTo_congr (copyQ _ _ _))) (hr := routes_all _ _)) $$ [Hsrc Hdst HO Hts Htr]
  · isplitr; · iapply (inv_dc wq wo K c six_snd (snd_lt hh)); iexact HI
    isplitr; · iapply (inv_dc wq wo K (nb f c) six_rcv (rcv_lt hh)); iexact HI
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iexact Hk

theorem sendO_step (K : GSem nD τ sig → ℕ) (f : Bool) (c : Dev nD) {h : ℕ} (hh : h < len f)
    {e : Dev nD} (he : e = nb f c) {s r : DmaSem sig} (hs : s = num (snd f false h)) (hr : r = num (rcv f false h))
    {o : Fin 3 → ℕ} (ho : o = ![(pos f c h).val, 0, 0])
    (hi : ∀ a, o a + S1x256x512.size a ≤ S32x256x512.size a)
    (hw : (Rect.unit (s := S32x256x512) o S1x256x512.size hi).WholeWords (EltTy.packing .bf16))
    (O : CellTallies nD τ sig Unit) (W : Waits sig Unit) (k : P F) (Q : PUnit → sProp 𝕄) :
    iprop(sendPre wq wo K f false c h
        ∗ owes (c : Thread nD τ) (O + tallyAt (dc (nb f c) (rcv f false h)) () (N false)) W)
      ⊢ iprop(((cred (tallyAt (dc c (snd f false h)) () (N false)) ∗ owes (c : Thread nD τ) O W) -∗ run c k Q)
        -∗ run c (sendO e s r o hi hw k) Q) := by
  subst he hs hr ho
  unfold sendPre dst sendO
  rw [part_false, any_false]
  iintro ⟨⟨#HI, Hsrc, ⟨Hdst, #Hrr⟩, Hts, #Hrs, Htr⟩, HO⟩ Hk
  icases Hdst with ⟨%fd, Hdst⟩
  iapply (Rounds.wp_send_pointsTo 𝒱₀ ER (sched wq wo) (c : Thread nD τ) none
      (c' := (nb f c : Thread nD τ)) (src := mO (pos f c h)) (dst := mO (pos f c h))
      (sS := .dma (num (snd f false h))) (sem := .dma (num (rcv f false h))) (q := (tot f h).left)
      (fs := stackO wo) (κ₁ := K (dc c (snd f false h))) (κ₂ := K (dc (nb f c) (rcv f false h)))
      (r₁ := 0) (r₂ := 0) (d₁ := true) (d₂ := true) (fd := fd)
      (by rw [duties_dc wq wo c six_snd (snd_lt hh)]; exact Finset.mem_singleton_self _)
      (by rw [duties_dc wq wo (nb f c) six_rcv (rcv_lt hh)]; exact Finset.mem_singleton_self _)
      () () (N false) (credO _ _)
      ((amount_dc wq wo c (snd_lt hh) true).trans (amt_snd hh))
      ((amount_dc wq wo (nb f c) (rcv_lt hh) true).trans (amt_rcv hh)) O rfl (W := W)
      (by rw [payload_dc wq wo c (snd_lt hh), pay_snd wq wo c hh]; exact BI.Entails.refl _)
      (by
        rw [payload_dc wq wo (nb f c) (rcv_lt hh), pay_rcv wq wo (nb f c) hh, pos_nb]
        exact Entails.of_eq (pointsTo_congr (copyO _ _ _))) (hr := routes_all _ _)) $$ [Hsrc Hdst HO Hts Htr]
  · isplitr; · iapply (inv_dc wq wo K c six_snd (snd_lt hh)); iexact HI
    isplitr; · iapply (inv_dc wq wo K (nb f c) six_rcv (rcv_lt hh)); iexact HI
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iexact Hk

/-! ## Waits -/

/-- A wait for the one payment of a DMA cell, whatever operation it is. -/
theorem wait_step (K : GSem nD τ sig → ℕ) (c : Dev nD) {n : ℕ} (h6 : 6 ≤ n) (hn : n < 130)
    {w : TpuEff nD τ sig (Elt F) Λ₀ .tc PUnit} {m : ℕ} (hm : m = amt n)
    (hw : ∀ Kt : PUnit → sProp 𝕄, wpE (defs₀ (F := F)) 𝒱₀ (c : Thread nD τ) none Set.univ w Kt
      = waitSpec (c : Thread nD τ) Set.univ (.dma (num n)) m Kt)
    {a b k' : ℕ} (ha : k' ≤ a) (hb : k' ≤ b) (hl : lv (dc c n) () < k' + 2)
    (k : PUnit → P F) (Q : PUnit → sProp 𝕄) :
    iprop(invAll wq wo K ∗ levAts L lv ∗ cred (tallyAt (dc c n) () (amt n)) ∗ (∃ W, owes (c : Thread nD τ) (ow c a b) W)
        ∗ atPos ER (dc c n) 0 ∅ 0)
      ⊢ iprop((((∃ W, owes (c : Thread nD τ) (ow c a b) W) ∗ atPos ER (dc c n) 1 ∅ 0 ∗ dmaPay wq wo c n)
          -∗ run c (k ⟨⟩) Q)
        -∗ run c (.op w k) Q) := by
  subst hm
  iintro ⟨#HI, #HL, Hc, ⟨%W, HO⟩, Hat⟩ Hk
  iapply (Rounds.wp_wait_rest_token 𝒱₀ ER (sched wq wo) (c : Thread nD τ) none (κ := K (dc c n))
      hw (Set.mem_univ _) () (O := ow c a b) (W := W) (R := 0) (m := 0) (T := ∅)
      ((Nat.zero_add _).trans (expect_dc wq wo c h6 hn).symm)) $$ [Hc HO Hat]
  · isplitr; · iapply (inv_dc wq wo K c h6 hn); iexact HI
    isplitl [Hc]; · iexact Hc
    isplitl [HO]; · iexact HO
    isplitr; · iapply (mayWait ha hb hl); iexact HL
    iexact Hat
  iintro ⟨HO, Hat, -, Hpay⟩
  ihave Hp := (Entails.of_eq (rest_dc wq wo c h6 hn)) $$ Hpay
  iapply Hk
  isplitl [HO]; · iexists _; iexact HO
  isplitl [Hat]; · iexact Hat
  iexact Hp

theorem waitQ_step (K : GSem nD τ sig → ℕ) (c : Dev nD) {n : ℕ} (h6 : 6 ≤ n) (hn : n < 130) (hN : amt n = N true)
    {s : DmaSem sig} (hs : s = num n) {o : Fin 3 → ℕ} (hi : ∀ a, o a + S1x512x256.size a ≤ S32x512x256.size a)
    (hw : (Rect.unit (s := S32x512x256) o S1x512x256.size hi).WholeWords (EltTy.packing .bf16))
    {a b k' : ℕ} (ha : k' ≤ a) (hb : k' ≤ b) (hl : lv (dc c n) () < k' + 2) (k : P F) (Q : PUnit → sProp 𝕄) :
    iprop(invAll wq wo K ∗ levAts L lv ∗ cred (tallyAt (dc c n) () (amt n)) ∗ (∃ W, owes (c : Thread nD τ) (ow c a b) W)
        ∗ atPos ER (dc c n) 0 ∅ 0)
      ⊢ iprop((((∃ W, owes (c : Thread nD τ) (ow c a b) W) ∗ atPos ER (dc c n) 1 ∅ 0 ∗ dmaPay wq wo c n)
          -∗ run c k Q)
        -∗ run c (waitQ s o hi hw k) Q) := by
  subst hs
  unfold waitQ
  refine wait_step wq wo K c h6 hn (m := (viewQ o hi).view.dmaCredit) hN.symm ?_ ha hb hl (fun _ => k) Q
  exact wpE_waitDma2_eq (src := viewQ o hi) (dst := viewQ o hi) 𝒱₀ (c : Thread nD τ) none Set.univ
theorem waitO_step (K : GSem nD τ sig → ℕ) (c : Dev nD) {n : ℕ} (h6 : 6 ≤ n) (hn : n < 130) (hN : amt n = N false)
    {s : DmaSem sig} (hs : s = num n) {o : Fin 3 → ℕ} (hi : ∀ a, o a + S1x256x512.size a ≤ S32x256x512.size a)
    (hw : (Rect.unit (s := S32x256x512) o S1x256x512.size hi).WholeWords (EltTy.packing .bf16))
    {a b k' : ℕ} (ha : k' ≤ a) (hb : k' ≤ b) (hl : lv (dc c n) () < k' + 2) (k : P F) (Q : PUnit → sProp 𝕄) :
    iprop(invAll wq wo K ∗ levAts L lv ∗ cred (tallyAt (dc c n) () (amt n)) ∗ (∃ W, owes (c : Thread nD τ) (ow c a b) W)
        ∗ atPos ER (dc c n) 0 ∅ 0)
      ⊢ iprop((((∃ W, owes (c : Thread nD τ) (ow c a b) W) ∗ atPos ER (dc c n) 1 ∅ 0 ∗ dmaPay wq wo c n)
          -∗ run c k Q)
        -∗ run c (waitO s o hi hw k) Q) := by
  subst hs
  unfold waitO
  refine wait_step wq wo K c h6 hn (m := (viewO o hi).view.dmaCredit) hN.symm ?_ ha hb hl (fun _ => k) Q
  exact wpE_waitDma2_eq (src := viewO o hi) (dst := viewO o hi) 𝒱₀ (c : Thread nD τ) none Set.univ

/-! ## The meeting -/

theorem meet_step (K : GSem nD τ sig → ℕ) (c : Dev nD) (W : Waits sig Unit) (k : P F) (Q : PUnit → sProp 𝕄) :
    iprop(invAll wq wo K ∗ levAts L lv
        ∗ (dutyTok ER (bc (left c)) 0 true ∗ reached ER (bc (left c)) 0 ∗ barPay (left c) true)
        ∗ (dutyTok ER (bc (right c)) 0 false ∗ reached ER (bc (right c)) 0 ∗ barPay (right c) false)
        ∗ cred (tallyAt (bc c) () 2) ∗ owes (c : Thread nD τ) (owed₀ c) W ∗ atPos ER (bc c) 0 ∅ 0)
      ⊢ iprop((((∃ W, owes (c : Thread nD τ) (ow c 0 0) W) ∗ atPos ER (bc c) 1 ∅ 0 ∗ barPay c true ∗ barPay c false)
          -∗ run c k Q)
        -∗ run c (meet c k) Q) := by
  unfold meet
  rw [dev1_eq, dev2_eq]
  iintro ⟨#HI, #HL, ⟨Htl, #Hrl, Hpl⟩, ⟨Htr, #Hrr, Hpr⟩, Hc, HO, Hat⟩ Hk
  iapply (Rounds.wp_signal 𝒱₀ ER (sched wq wo) (c : Thread nD τ) none (dst := (left c : Thread nD τ)) (sem := bar)
      (r := 0) (d := true) (k' := 1) (κ := K (bc (left c)))
      (by rw [duties_bc]; decide) rfl () (ow c 0 0 + tallyAt (bc (right c)) () 1) rfl (W := W)) $$ [HO Htl Hpl]
  · isplitr; · iapply (inv_bc wq wo K (left c)); iexact HI
    isplitl [HO]; · iexact HO
    isplitl [Htl]; · iexact Htl
    isplitl [Hpl]; · iapply (Entails.of_eq (payload_bc wq wo (left c) true).symm); iexact Hpl
    iexact Hrl
  iintro HO
  iapply (Rounds.wp_signal 𝒱₀ ER (sched wq wo) (c : Thread nD τ) none (dst := (right c : Thread nD τ)) (sem := bar)
      (r := 0) (d := false) (k' := 1) (κ := K (bc (right c)))
      (by rw [duties_bc]; decide) rfl () (ow c 0 0) rfl (W := W)) $$ [HO Htr Hpr]
  · isplitr; · iapply (inv_bc wq wo K (right c)); iexact HI
    isplitl [HO]; · iexact HO
    isplitl [Htr]; · iexact Htr
    isplitl [Hpr]; · iapply (Entails.of_eq (payload_bc wq wo (right c) false).symm); iexact Hpr
    iexact Hrr
  iintro HO
  iapply (Rounds.wp_wait_rest_token 𝒱₀ ER (sched wq wo) (c : Thread nD τ) none (κ := K (bc c))
      (wpE_semWait_eq 𝒱₀ (c : Thread nD τ) none Set.univ) (Set.mem_univ _) () (O := ow c 0 0) (W := W) (R := 0)
      (m := 0) (T := ∅) ((Nat.zero_add _).trans (expect_bc wq wo c).symm)) $$ [Hc HO Hat]
  · isplitr; · iapply (inv_bc wq wo K c); iexact HI
    isplitl [Hc]; · iexact Hc
    isplitl [HO]; · iexact HO
    isplitr; · iapply (mayWait (k := 0) le_rfl le_rfl (by show 1 < 0 + 2; omega)); iexact HL
    iexact Hat
  iintro ⟨HO, Hat, -, Hpay⟩
  ihave Hp := (Entails.of_eq (rest_bc wq wo c)) $$ Hpay
  iapply Hk
  isplitl [HO]; · iexists _; iexact HO
  isplitl [Hat]; · iexact Hat
  iexact Hp

/-! ## Loads and stores -/

theorem loadQ_step (c s : Dev nD) (sh : PosShare TreeShare) {o : Fin 3 → ℕ} (ho : o = ![s.val, 0, 0])
    (hi : ∀ a, o a + S1x512x256.size a ≤ S32x512x256.size a) (k : Vec F S1x512x256 .bf16 → P F)
    (Q : PUnit → sProp 𝕄) :
    part wq wo true c s sh
      ⊢ iprop((part wq wo true c s sh -∗ run c (k (shardQ (wq s))) Q) -∗ run c (loadQ o hi k) Q) := by
  subst ho
  unfold loadQ part
  have h := wp_load_rect (defs := defs₀ (F := F)) 𝒱₀ (c : Thread nD τ) none (Γ := []) Set.univ (Q := Q) (m := bufQ) (r := rQ s)
    (hl := View.loadsAt_vmem h_S1x512x256) (k := k) (S := (mQ s).view.set) (q := sh) (f := stackQ wq)
    (by rw [mQ_set]; exact (View.set_slice_whole _ _).subset)
  rwa [read_stackQ] at h
theorem loadO_step (c s : Dev nD) (sh : PosShare TreeShare) {o : Fin 3 → ℕ} (ho : o = ![s.val, 0, 0])
    (hi : ∀ a, o a + S1x256x512.size a ≤ S32x256x512.size a) (k : Vec F S1x256x512 .bf16 → P F)
    (Q : PUnit → sProp 𝕄) :
    part wq wo false c s sh
      ⊢ iprop((part wq wo false c s sh -∗ run c (k (shardO (wo s))) Q) -∗ run c (loadO o hi k) Q) := by
  subst ho
  unfold loadO part
  have h := wp_load_rect (defs := defs₀ (F := F)) 𝒱₀ (c : Thread nD τ) none (Γ := []) Set.univ (Q := Q) (m := bufO) (r := rO s)
    (hl := View.loadsAt_vmem h_S1x256x512) (k := k) (S := (mO s).view.set) (q := sh) (f := stackO wo)
    (by rw [mO_set]; exact (View.set_slice_whole _ _).subset)
  rwa [read_stackO] at h

end Cert.KernelIdeal.Ring

end
-- ==== Proof.Chunk.lean ====
/- One chunk of work, and the filling of a device's own slots: the windows, their loads, the accumulator's
   update. -/
module

public import proofs.«01_k».proof.Proof.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (wq : Dev nD → Vec F S512x256 .bf16) (wo : Dev nD → Vec F S256x512 .bf16)

/-! ## The windows -/

/-- The query-weight window. -/
def wqAt (c : Dev nD) (w : Vec F S512x256 .bf16) : sProp 𝕄 := ((c : Thread nD τ).loc cc0_stg1_0) ↦{fullShare} w
/-- The output-weight window. -/
def woAt (c : Dev nD) (w : Vec F S256x512 .bf16) : sProp 𝕄 := ((c : Thread nD τ).loc cc0_stg2_0) ↦{fullShare} w
/-- The keys' window. -/
def kAt (c : Dev nD) (X : Vec F S2x128x128x64 .bf16) : sProp 𝕄 := ((c : Thread nD τ).loc cc0_stg3_0) ↦{fullShare} X
/-- The values' window. -/
def vAt (c : Dev nD) (X : Vec F S2x128x128x64 .bf16) : sProp 𝕄 := ((c : Thread nD τ).loc cc0_stg4_0) ↦{fullShare} X
/-- The accumulator, which is the result's window. -/
def accAt (c : Dev nD) (g : Vec F S2x128x512 .f32) : sProp 𝕄 := ((c : Thread nD τ).loc cc0_stg5_0) ↦{fullShare} g

theorem inbH (b : Fin 2) (s : Dev nD) :
    ∀ a, (![b.val, 4 * s.val, 0, 0] : Fin 4 → ℕ) a + S1x4x128x64.size a ≤ S2x128x128x64.size a := by
  have := s.isLt; have := b.isLt
  intro a; fin_cases a <;> simp [nD] at * <;> omega
/-- The four heads of position `s` of one batch, as a block of the keys or of the values. -/
abbrev rH (b : Fin 2) (s : Dev nD) : Rect S2x128x128x64 :=
  Rect.unit (s := S2x128x128x64) ![b.val, 4 * s.val, 0, 0] S1x4x128x64.size (inbH b s)
/-- The four heads of position `s` of one batch. -/
def headsAt (b : Fin 2) (s : Dev nD) (X : Vec F S2x128x128x64 .bf16) : Vec F S1x4x128x64 .bf16 :=
  fun j => X ((rH b s).emb j)

theorem loadK_step (c : Dev nD) (X : Vec F S2x128x128x64 .bf16) (b : Fin 2) (s : Dev nD) {o : Fin 4 → ℕ}
    (ho : o = ![b.val, 4 * s.val, 0, 0]) (hi : ∀ a, o a + S1x4x128x64.size a ≤ S2x128x128x64.size a)
    (k : Vec F S1x4x128x64 .bf16 → P F) (Q : PUnit → sProp 𝕄) :
    kAt c X ⊢ iprop((kAt c X -∗ run c (k (headsAt b s X)) Q)
      -∗ run c (loadKV (Memref.whole cc0_stg3_0) o hi k) Q) := by
  subst ho
  unfold loadKV kAt
  exact wp_load_rect (defs := defs₀ (F := F)) 𝒱₀ (c : Thread nD τ) none (Γ := []) Set.univ (Q := Q)
    (m := Memref.whole cc0_stg3_0) (r := rH b s) (hl := View.loadsAt_vmem h_S1x4x128x64) (k := k)
    (S := Finset.univ) (q := fullShare) (f := X) (Finset.subset_univ _)
theorem loadV_step (c : Dev nD) (X : Vec F S2x128x128x64 .bf16) (b : Fin 2) (s : Dev nD) {o : Fin 4 → ℕ}
    (ho : o = ![b.val, 4 * s.val, 0, 0]) (hi : ∀ a, o a + S1x4x128x64.size a ≤ S2x128x128x64.size a)
    (k : Vec F S1x4x128x64 .bf16 → P F) (Q : PUnit → sProp 𝕄) :
    vAt c X ⊢ iprop((vAt c X -∗ run c (k (headsAt b s X)) Q)
      -∗ run c (loadKV (Memref.whole cc0_stg4_0) o hi k) Q) := by
  subst ho
  unfold loadKV vAt
  exact wp_load_rect (defs := defs₀ (F := F)) 𝒱₀ (c : Thread nD τ) none (Γ := []) Set.univ (Q := Q)
    (m := Memref.whole cc0_stg4_0) (r := rH b s) (hl := View.loadsAt_vmem h_S1x4x128x64) (k := k)
    (S := Finset.univ) (q := fullShare) (f := X) (Finset.subset_univ _)

theorem zero3 : (![0, 0, 0] : Fin 3 → ℕ) = fun _ => 0 := by decide
theorem zero2 : (![0, 0] : Fin 2 → ℕ) = fun _ => 0 := by decide

theorem loadAcc_step (c : Dev nD) (g : Vec F S2x128x512 .f32) (k : Vec F S2x128x512 .f32 → P F)
    (Q : PUnit → sProp 𝕄) :
    accAt c g ⊢ iprop((accAt c g -∗ run c (k g) Q) -∗ run c (loadAcc (Memref.whole cc0_stg5_0) k) Q) := by
  unfold loadAcc accAt
  have h := wp_load_rect (defs := defs₀ (F := F)) 𝒱₀ (c : Thread nD τ) none (Γ := []) Set.univ (Q := Q)
    (m := Memref.whole cc0_stg5_0) (r := Rect.unit (s := S2x128x512) ![0, 0, 0] S2x128x512.size
      inb_S2x128x512_S2x128x512_0_0_0) (hl := View.loadsAt_vmem h_S2x128x512) (k := k)
    (S := Finset.univ) (q := fullShare) (f := g) (Finset.subset_univ _)
  have e : ((Memref.whole cc0_stg5_0).access (Rect.unit (s := S2x128x512) ![0, 0, 0] S2x128x512.size
      inb_S2x128x512_S2x128x512_0_0_0)).read (Elt F) g = g :=
    Memref.read_access_unit_zero (Elt F) cc0_stg5_0 zero3 inb_S2x128x512_S2x128x512_0_0_0 g
  rw [e] at h
  exact h
theorem storeAcc_step (c : Dev nD) (g w : Vec F S2x128x512 .f32) (k : P F) (Q : PUnit → sProp 𝕄) :
    accAt c g ⊢ iprop((accAt c w -∗ run c k Q) -∗ run c (storeAcc (Memref.whole cc0_stg5_0) w k) Q) := by
  unfold storeAcc accAt
  have h := wp_store (defs := defs₀ (F := F)) 𝒱₀ (c : Thread nD τ) none (Γ := []) Set.univ (Q := Q)
    (m := Memref.whole cc0_stg5_0) (r := Rect.unit (s := S2x128x512) ![0, 0, 0] S2x128x512.size
      inb_S2x128x512_S2x128x512_0_0_0) (w := w) (Mk := Finset.univ)
    (hx := View.stores_vmem_bits_univ h_S2x128x512 rfl) (hm := .inl rfl) (k := fun _ => k)
    (S := Finset.univ) (f := g) (Finset.subset_univ _)
  have e : ((Memref.whole cc0_stg5_0).access (Rect.unit (s := S2x128x512) ![0, 0, 0] S2x128x512.size
      inb_S2x128x512_S2x128x512_0_0_0)).write (Elt F) g w Finset.univ = w :=
    Memref.write_access_unit_zero_univ (Elt F) cc0_stg5_0 zero3 inb_S2x128x512_S2x128x512_0_0_0 g w
  rw [e] at h
  exact h

/-! ## A chunk -/

/-- The accumulator after the chunk of position `s`. -/
def step (c : Dev nD) (x : FVec F S256x512 .bf16) (K V : Vec F S2x128x128x64 .bf16) (s : Dev nD)
    (g : Vec F S2x128x512 .f32) : Vec F S2x128x512 .f32 :=
  chunkVal x (maskOf c) (keepOf F c) (shardQ (wq s)) (headsAt 0 s K) (headsAt 1 s K)
    (headsAt 0 s V) (headsAt 1 s V) (shardO (wo s)) g

theorem chunk_step (c : Dev nD) (x : FVec F S256x512 .bf16) (K V : Vec F S2x128x128x64 .bf16) (s : Dev nD)
    (sh sh' : PosShare TreeShare) (g : Vec F S2x128x512 .f32)
    {oq : Fin 3 → ℕ} (eq : oq = ![s.val, 0, 0]) (hq : ∀ a, oq a + S1x512x256.size a ≤ S32x512x256.size a)
    {o0 : Fin 4 → ℕ} (e0 : o0 = ![0, 4 * s.val, 0, 0]) (h0 : ∀ a, o0 a + S1x4x128x64.size a ≤ S2x128x128x64.size a)
    {o1 : Fin 4 → ℕ} (e1 : o1 = ![1, 4 * s.val, 0, 0]) (h1 : ∀ a, o1 a + S1x4x128x64.size a ≤ S2x128x128x64.size a)
    {oo : Fin 3 → ℕ} (eo : oo = ![s.val, 0, 0]) (ho : ∀ a, oo a + S1x256x512.size a ≤ S32x256x512.size a)
    (k : P F) (Q : PUnit → sProp 𝕄) :
    iprop(part wq wo true c s sh ∗ part wq wo false c s sh' ∗ kAt c K ∗ vAt c V ∗ accAt c g)
      ⊢ iprop(((part wq wo true c s sh ∗ part wq wo false c s sh' ∗ kAt c K ∗ vAt c V
            ∗ accAt c (step wq wo c x K V s g)) -∗ run c k Q)
        -∗ run c (chunk (Memref.whole cc0_stg3_0) (Memref.whole cc0_stg4_0) (Memref.whole cc0_stg5_0) c x
            oq hq o0 h0 o1 h1 oo ho k) Q) := by
  unfold chunk
  iintro ⟨Hq, Ho, HK, HV, Ha⟩ Hk
  iapply (loadQ_step wq wo c s sh eq hq _ Q) $$ [Hq]
  · iexact Hq
  iintro Hq
  iapply (loadK_step c K 0 s e0 h0 _ Q) $$ [HK]
  · iexact HK
  iintro HK
  iapply (loadK_step c K 1 s e1 h1 _ Q) $$ [HK]
  · iexact HK
  iintro HK
  iapply (loadV_step c V 0 s e0 h0 _ Q) $$ [HV]
  · iexact HV
  iintro HV
  iapply (loadV_step c V 1 s e1 h1 _ Q) $$ [HV]
  · iexact HV
  iintro HV
  iapply (loadO_step wq wo c s sh' eo ho _ Q) $$ [Ho]
  · iexact Ho
  iintro Ho
  iapply (loadAcc_step c g _ Q) $$ [Ha]
  · iexact Ha
  iintro Ha
  iapply (loadAcc_step c g _ Q) $$ [Ha]
  · iexact Ha
  iintro Ha
  iapply (storeAcc_step c g (step wq wo c x K V s g) _ Q) $$ [Ha]
  · iexact Ha
  iintro Ha
  iapply Hk
  isplitl [Hq]; · iexact Hq
  isplitl [Ho]; · iexact Ho
  isplitl [HK]; · iexact HK
  isplitl [HV]; · iexact HV
  iexact Ha

/-! ## A device's own slots -/

theorem off1_eq (d : Dev nD) : k0_off1 d = ![d.val, 0, 0] := by revert d; decide +kernel
theorem off2_eq (d : Dev nD) : k0_off2 d = ![d.val, 0, 0] := by revert d; decide +kernel

theorem peekQ_step (c : Dev nD) {o : Fin 3 → ℕ} (ho : o = ![c.val, 0, 0])
    (hi : ∀ a, o a + S1x512x256.size a ≤ S32x512x256.size a) (k : P F) (Q : PUnit → sProp 𝕄) :
    anyPart true c c ⊢ iprop((anyPart (F := F) true c c -∗ run c k Q) -∗ run c (loadQ o hi fun _ => k) Q) := by
  subst ho
  unfold loadQ
  rw [any_true]
  iintro ⟨%f, H⟩ Hk
  iapply (wp_load_rect (defs := defs₀ (F := F)) 𝒱₀ (c : Thread nD τ) none (Γ := []) Set.univ (Q := Q) (m := bufQ) (r := rQ c)
    (hl := View.loadsAt_vmem h_S1x512x256) (k := fun _ => k) (S := (mQ c).view.set) (q := fullShare) (f := f)
    (by rw [mQ_set]; exact (View.set_slice_whole _ _).subset)) $$ [H]
  · iexact H
  iintro H
  iapply Hk
  iexists f; iexact H
theorem peekO_step (c : Dev nD) {o : Fin 3 → ℕ} (ho : o = ![c.val, 0, 0])
    (hi : ∀ a, o a + S1x256x512.size a ≤ S32x256x512.size a) (k : P F) (Q : PUnit → sProp 𝕄) :
    anyPart false c c ⊢ iprop((anyPart (F := F) false c c -∗ run c k Q) -∗ run c (loadO o hi fun _ => k) Q) := by
  subst ho
  unfold loadO
  rw [any_false]
  iintro ⟨%f, H⟩ Hk
  iapply (wp_load_rect (defs := defs₀ (F := F)) 𝒱₀ (c : Thread nD τ) none (Γ := []) Set.univ (Q := Q) (m := bufO) (r := rO c)
    (hl := View.loadsAt_vmem h_S1x256x512) (k := fun _ => k) (S := (mO c).view.set) (q := fullShare) (f := f)
    (by rw [mO_set]; exact (View.set_slice_whole _ _).subset)) $$ [H]
  · iexact H
  iintro H
  iapply Hk
  iexists f; iexact H

theorem storeQ_step (c : Dev nD) {o : Fin 3 → ℕ} (ho : o = ![c.val, 0, 0])
    (hi : ∀ a, o a + S1x512x256.size a ≤ S32x512x256.size a)
    (hx : (bufQ.access (Rect.unit (s := S32x512x256) o S1x512x256.size hi)).Stores Finset.univ)
    (k : P F) (Q : PUnit → sProp 𝕄) :
    anyPart true c c ⊢ iprop((part wq wo true c c fullShare -∗ run c k Q)
      -∗ run c (.op (.store bufQ (Rect.unit (s := S32x512x256) o S1x512x256.size hi) (shardQ (wq c)) Finset.univ hx
        (.inl rfl)) fun _ => k) Q) := by
  subst ho
  rw [any_true, part_true]
  iintro ⟨%f, H⟩ Hk
  iapply (wp_store (defs := defs₀ (F := F)) 𝒱₀ (c : Thread nD τ) none (Γ := []) Set.univ (Q := Q) (m := bufQ) (r := rQ c)
    (w := shardQ (wq c)) (Mk := Finset.univ) (hx := hx) (hm := .inl rfl) (k := fun _ => k) (S := (mQ c).view.set) (f := f)
    (by rw [mQ_set]; exact (View.set_slice_whole _ _).subset)) $$ [H]
  · iexact H
  iintro H
  iapply Hk
  iapply (Entails.of_eq (pointsTo_congr (write_stackQ wq c f)))
  iexact H
theorem storeO_step (c : Dev nD) {o : Fin 3 → ℕ} (ho : o = ![c.val, 0, 0])
    (hi : ∀ a, o a + S1x256x512.size a ≤ S32x256x512.size a)
    (hx : (bufO.access (Rect.unit (s := S32x256x512) o S1x256x512.size hi)).Stores Finset.univ)
    (k : P F) (Q : PUnit → sProp 𝕄) :
    anyPart false c c ⊢ iprop((part wq wo false c c fullShare -∗ run c k Q)
      -∗ run c (.op (.store bufO (Rect.unit (s := S32x256x512) o S1x256x512.size hi) (shardO (wo c)) Finset.univ hx
        (.inl rfl)) fun _ => k) Q) := by
  subst ho
  rw [any_false, part_false]
  iintro ⟨%f, H⟩ Hk
  iapply (wp_store (defs := defs₀ (F := F)) 𝒱₀ (c : Thread nD τ) none (Γ := []) Set.univ (Q := Q) (m := bufO) (r := rO c)
    (w := shardO (wo c)) (Mk := Finset.univ) (hx := hx) (hm := .inl rfl) (k := fun _ => k) (S := (mO c).view.set) (f := f)
    (by rw [mO_set]; exact (View.set_slice_whole _ _).subset)) $$ [H]
  · iexact H
  iintro H
  iapply Hk
  iapply (Entails.of_eq (pointsTo_congr (write_stackO wo c f)))
  iexact H

theorem loadWq_step (c : Dev nD) (w : Vec F S512x256 .bf16) (k : Vec F S512x256 .bf16 → P F) (Q : PUnit → sProp 𝕄) :
    wqAt c w ⊢ iprop((wqAt c w -∗ run c (k w) Q) -∗ run c (.op (.load (Memref.whole cc0_stg1_0)
      (Rect.unit (s := S512x256) ![0, 0] S512x256.size inb_S512x256_S512x256_0_0).toLoadRect
      (View.loadsAt_vmem h_S512x256)) k) Q) := by
  unfold wqAt
  have h := wp_load_rect (defs := defs₀ (F := F)) 𝒱₀ (c : Thread nD τ) none (Γ := []) Set.univ (Q := Q)
    (m := Memref.whole cc0_stg1_0) (r := Rect.unit (s := S512x256) ![0, 0] S512x256.size
      inb_S512x256_S512x256_0_0) (hl := View.loadsAt_vmem h_S512x256) (k := k)
    (S := Finset.univ) (q := fullShare) (f := w) (Finset.subset_univ _)
  have e : ((Memref.whole cc0_stg1_0).access (Rect.unit (s := S512x256) ![0, 0] S512x256.size
      inb_S512x256_S512x256_0_0)).read (Elt F) w = w :=
    Memref.read_access_unit_zero (Elt F) cc0_stg1_0 zero2 inb_S512x256_S512x256_0_0 w
  rw [e] at h
  exact h
theorem loadWo_step (c : Dev nD) (w : Vec F S256x512 .bf16) (k : Vec F S256x512 .bf16 → P F) (Q : PUnit → sProp 𝕄) :
    woAt c w ⊢ iprop((woAt c w -∗ run c (k w) Q) -∗ run c (.op (.load (Memref.whole cc0_stg2_0)
      (Rect.unit (s := S256x512) ![0, 0] S256x512.size inb_S256x512_S256x512_0_0).toLoadRect
      (View.loadsAt_vmem h_S256x512)) k) Q) := by
  unfold woAt
  have h := wp_load_rect (defs := defs₀ (F := F)) 𝒱₀ (c : Thread nD τ) none (Γ := []) Set.univ (Q := Q)
    (m := Memref.whole cc0_stg2_0) (r := Rect.unit (s := S256x512) ![0, 0] S256x512.size
      inb_S256x512_S256x512_0_0) (hl := View.loadsAt_vmem h_S256x512) (k := k)
    (S := Finset.univ) (q := fullShare) (f := w) (Finset.subset_univ _)
  have e : ((Memref.whole cc0_stg2_0).access (Rect.unit (s := S256x512) ![0, 0] S256x512.size
      inb_S256x512_S256x512_0_0)).read (Elt F) w = w :=
    Memref.read_access_unit_zero (Elt F) cc0_stg2_0 zero2 inb_S256x512_S256x512_0_0 w
  rw [e] at h
  exact h

theorem fill_step (c : Dev nD) (g : Vec F S2x128x512 .f32) (k : P F) (Q : PUnit → sProp 𝕄) :
    iprop(wqAt c (wq c) ∗ woAt c (wo c) ∗ anyPart (F := F) true c c ∗ anyPart (F := F) false c c ∗ accAt c g)
      ⊢ iprop(((wqAt c (wq c) ∗ woAt c (wo c) ∗ part wq wo true c c fullShare ∗ part wq wo false c c fullShare
            ∗ accAt c (k0_pay12 (F := F))) -∗ run c k Q)
        -∗ run c (fill (Memref.whole cc0_stg1_0) (Memref.whole cc0_stg2_0) (Memref.whole cc0_stg5_0) c k) Q) := by
  unfold fill
  iintro ⟨H1, H2, Hq, Ho, Ha⟩ Hk
  iapply (loadWq_step c (wq c) _ Q) $$ [H1]
  · iexact H1
  iintro H1
  iapply (peekQ_step c (off1_eq c) (k0_off1_inb c) _ Q) $$ [Hq]
  · iexact Hq
  iintro Hq
  iapply (storeQ_step wq wo c (off1_eq c) (k0_off1_inb c) _ _ Q) $$ [Hq]
  · iexact Hq
  iintro Hq
  iapply (loadWo_step c (wo c) _ Q) $$ [H2]
  · iexact H2
  iintro H2
  iapply (peekO_step c (off2_eq c) (k0_off2_inb c) _ Q) $$ [Ho]
  · iexact Ho
  iintro Ho
  iapply (storeO_step wq wo c (off2_eq c) (k0_off2_inb c) _ _ Q) $$ [Ho]
  · iexact Ho
  iintro Ho
  iapply (loadAcc_step c g _ Q) $$ [Ha]
  · iexact Ha
  iintro Ha
  iapply (storeAcc_step c g (k0_pay12 (F := F)) _ Q) $$ [Ha]
  · iexact Ha
  iintro Ha
  iapply Hk
  isplitl [H1]; · iexact H1
  isplitl [H2]; · iexact H2
  isplitl [Hq]; · iexact Hq
  isplitl [Ho]; · iexact Ho
  iexact Ha

end Cert.KernelIdeal.Ring

end
-- ==== Proof.Legs.lean ====
/- The hops' phases: before the launch, in flight, over; a hop's sends, its waits and its chunks. -/
module

public import proofs.«01_k».proof.Proof.Chunk

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (wq : Dev nD → Vec F S512x256 .bf16) (wo : Dev nD → Vec F S256x512 .bf16)

/-! ## The three phases of a hop -/

theorem part_split (q : Bool) (c s : Dev nD) (sh : PosShare TreeShare) :
    part wq wo q c s sh ⊣⊢ iprop(part wq wo q c s sh.left ∗ part wq wo q c s sh.right) := by
  cases q
  · rw [part_false, part_false, part_false]; exact pointsTo_share (PosShare.mem_left_op_right sh)
  · rw [part_true, part_true, part_true]; exact pointsTo_share (PosShare.mem_left_op_right sh)

/-- Both matrices' slots of the chunk a hop carries away. -/
def held (f : Bool) (c : Dev nD) (h : ℕ) (sh : PosShare TreeShare) : sProp 𝕄 :=
  iprop(part wq wo true c (pos f c h) sh ∗ part wq wo false c (pos f c h) sh)

theorem held_split (f : Bool) (c : Dev nD) (h : ℕ) (sh : PosShare TreeShare) :
    held wq wo f c h sh ⊢ iprop(held wq wo f c h sh.left ∗ held wq wo f c h sh.right) := by
  unfold held
  iintro ⟨H1, H2⟩
  ihave H1 := (part_split wq wo true c (pos f c h) sh).1 $$ H1
  ihave H2 := (part_split wq wo false c (pos f c h) sh).1 $$ H2
  icases H1 with ⟨H1, H1'⟩
  icases H2 with ⟨H2, H2'⟩
  isplitl [H1 H2]
  · isplitl [H1]; · iexact H1
    iexact H2
  isplitl [H1']; · iexact H1'
  iexact H2'
theorem held_join (f : Bool) (c : Dev nD) (h : ℕ) (sh : PosShare TreeShare) :
    iprop(held wq wo f c h sh.left ∗ held wq wo f c h sh.right) ⊢ held wq wo f c h sh := by
  unfold held
  iintro ⟨⟨H1, H2⟩, H1', H2'⟩
  isplitl [H1 H1']
  · iapply (part_split wq wo true c (pos f c h) sh).2
    isplitl [H1]; · iexact H1
    iexact H1'
  iapply (part_split wq wo false c (pos f c h) sh).2
  isplitl [H2]; · iexact H2
  iexact H2'

/-- One matrix's hop before its launch, the leave to write its destination apart. -/
def legA (f q : Bool) (c : Dev nD) (h : ℕ) : sProp 𝕄 :=
  iprop(atPos ER (dc c (snd f q h)) 0 ∅ 0 ∗ reached ER (dc c (snd f q h)) 0 ∗ atPos ER (dc c (rcv f q h)) 0 ∅ 0
    ∗ dutyTok ER (dc c (snd f q h)) 0 true ∗ dutyTok ER (dc (nb f c) (rcv f q h)) 0 true
    ∗ cred (tallyAt (dc c (rcv f q h)) () (N q)))
/-- One matrix's hop in flight. -/
def legB (f q : Bool) (c : Dev nD) (h : ℕ) : sProp 𝕄 :=
  iprop(atPos ER (dc c (snd f q h)) 0 ∅ 0 ∗ atPos ER (dc c (rcv f q h)) 0 ∅ 0
    ∗ cred (tallyAt (dc c (snd f q h)) () (N q)) ∗ cred (tallyAt (dc c (rcv f q h)) () (N q)))
/-- One matrix's hop when it is over. -/
def legC (f q : Bool) (c : Dev nD) (h : ℕ) : sProp 𝕄 :=
  iprop(atPos ER (dc c (snd f q h)) 1 ∅ 0 ∗ atPos ER (dc c (rcv f q h)) 1 ∅ 0)

/-- A hop before its launch. -/
def hopA (f : Bool) (c : Dev nD) (h : ℕ) : sProp 𝕄 :=
  iprop((legA f true c h ∗ legA f false c h) ∗ dst f true c h ∗ dst f false c h)
/-- A hop in flight, with the half of its chunk that stays readable. -/
def hopB (f : Bool) (c : Dev nD) (h : ℕ) : sProp 𝕄 :=
  iprop(legB f true c h ∗ legB f false c h)
/-- A hop that is over, its chunk back. -/
def hopC (f : Bool) (c : Dev nD) (h : ℕ) : sProp 𝕄 :=
  iprop((legC f true c h ∗ legC f false c h) ∗ held wq wo f c h (tot f h))

/-- What is owed, hops `h` of a direction and `o` of the other on being still to launch. -/
def owf : Bool → Dev nD → ℕ → ℕ → CellTallies nD τ sig Unit
  | true, c, h, o => ow c h o
  | false, c, h, o => ow c o h

theorem owf_succ {f : Bool} {c : Dev nD} {h o : ℕ} (hh : h < len f) : owf f c h o
    = (owf f c (h + 1) o + tallyAt (dc (nb f c) (rcv f false h)) () (N false))
      + tallyAt (dc (nb f c) (rcv f true h)) () (N true) := by
  cases f
  · show (owL true true c o + owL true false c o) + (owL false true c h + owL false false c h)
      = ((owL true true c o + owL true false c o) + (owL false true c (h + 1) + owL false false c (h + 1)) + _) + _
    rw [owL_succ (q := true) (c := c) hh, owL_succ (q := false) (c := c) hh]; ac_rfl
  · show (owL true true c h + owL true false c h) + (owL false true c o + owL false false c o)
      = ((owL true true c (h + 1) + owL true false c (h + 1)) + (owL false true c o + owL false false c o) + _) + _
    rw [owL_succ (q := true) (c := c) hh, owL_succ (q := false) (c := c) hh]; ac_rfl

/-- A direction's two sends of a hop. -/
theorem launch_step (K : GSem nD τ sig → ℕ) (f : Bool) (c : Dev nD) {h : ℕ} (hh : h < len f) (o : ℕ)
    {e : Dev nD} (he : e = nb f c)
    {s r s' r' : DmaSem sig} (hs : s = num (snd f true h)) (hr : r = num (rcv f true h))
    (hs' : s' = num (snd f false h)) (hr' : r' = num (rcv f false h))
    {p p' : Fin 3 → ℕ} (hp : p = ![(pos f c h).val, 0, 0]) (hp' : p' = ![(pos f c h).val, 0, 0])
    (hi : ∀ a, p a + S1x512x256.size a ≤ S32x512x256.size a)
    (hw : (Rect.unit (s := S32x512x256) p S1x512x256.size hi).WholeWords (EltTy.packing .bf16))
    (hi' : ∀ a, p' a + S1x256x512.size a ≤ S32x256x512.size a)
    (hw' : (Rect.unit (s := S32x256x512) p' S1x256x512.size hi').WholeWords (EltTy.packing .bf16))
    (k : P F) (Q : PUnit → sProp 𝕄) :
    iprop(invAll wq wo K ∗ hopA f c h ∗ held wq wo f c h (tot f h)
        ∗ ∃ W, owes (c : Thread nD τ) (owf f c h o) W)
      ⊢ iprop(((hopB f c h ∗ held wq wo f c h (tot f h).right
            ∗ ∃ W, owes (c : Thread nD τ) (owf f c (h + 1) o) W) -∗ run c k Q)
        -∗ run c (sendQ e s r p hi hw (sendO e s' r' p' hi' hw' k)) Q) := by
  unfold hopA hopB legA legB
  rw [owf_succ hh]
  iintro ⟨#HI, ⟨⟨⟨Hs1, #Hrs1, Hr1, Hts1, Htr1, Hc1⟩, Hs2, #Hrs2, Hr2, Hts2, Htr2, Hc2⟩, Hd1, Hd2⟩, Hh, ⟨%W, HO⟩⟩ Hk
  ihave Hh := (held_split wq wo f c h (tot f h)) $$ Hh
  unfold held
  icases Hh with ⟨⟨Hl1, Hl2⟩, Hr⟩
  iapply (sendQ_step wq wo K f c hh he hs hr hp hi hw _ W _ Q) $$ [Hl1 Hd1 Hts1 Htr1 HO]
  · isplitl [Hl1 Hd1 Hts1 Htr1]
    · unfold sendPre
      isplitr; · iexact HI
      isplitl [Hl1]; · iexact Hl1
      isplitl [Hd1]; · iexact Hd1
      isplitl [Hts1]; · iexact Hts1
      isplitr; · iexact Hrs1
      iexact Htr1
    iexact HO
  iintro ⟨Hcs1, HO⟩
  iapply (sendO_step wq wo K f c hh he hs' hr' hp' hi' hw' _ W _ Q) $$ [Hl2 Hd2 Hts2 Htr2 HO]
  · isplitl [Hl2 Hd2 Hts2 Htr2]
    · unfold sendPre
      isplitr; · iexact HI
      isplitl [Hl2]; · iexact Hl2
      isplitl [Hd2]; · iexact Hd2
      isplitl [Hts2]; · iexact Hts2
      isplitr; · iexact Hrs2
      iexact Htr2
    iexact HO
  iintro ⟨Hcs2, HO⟩
  iapply Hk
  isplitl [Hs1 Hr1 Hcs1 Hc1 Hs2 Hr2 Hcs2 Hc2]
  · isplitl [Hs1 Hr1 Hcs1 Hc1]
    · isplitl [Hs1]; · iexact Hs1
      isplitl [Hr1]; · iexact Hr1
      isplitl [Hcs1]; · iexact Hcs1
      iexact Hc1
    isplitl [Hs2]; · iexact Hs2
    isplitl [Hr2]; · iexact Hr2
    isplitl [Hcs2]; · iexact Hcs2
    iexact Hc2
  isplitl [Hr]; · iexact Hr
  iexists W; iexact HO

/-- A direction's four waits of a hop. -/
theorem arrive_step (K : GSem nD τ sig → ℕ) (f : Bool) (c : Dev nD) {h a b : ℕ} (hh : h < len f)
    (ha : h + 1 ≤ a) (hb : h + 1 ≤ b)
    {s r s' r' : DmaSem sig} (hs : s = num (snd f true h)) (hr : r = num (rcv f true h))
    (hs' : s' = num (snd f false h)) (hr' : r' = num (rcv f false h))
    {p p' : Fin 3 → ℕ}
    (hi : ∀ a, p a + S1x512x256.size a ≤ S32x512x256.size a)
    (hw : (Rect.unit (s := S32x512x256) p S1x512x256.size hi).WholeWords (EltTy.packing .bf16))
    (hi' : ∀ a, p' a + S1x256x512.size a ≤ S32x256x512.size a)
    (hw' : (Rect.unit (s := S32x256x512) p' S1x256x512.size hi').WholeWords (EltTy.packing .bf16))
    (k : P F) (Q : PUnit → sProp 𝕄) :
    iprop(invAll wq wo K ∗ levAts L lv ∗ hopB f c h ∗ held wq wo f c h (tot f h).right
        ∗ ∃ W, owes (c : Thread nD τ) (ow c a b) W)
      ⊢ iprop(((hopC wq wo f c h ∗ held wq wo f c (h + 1) fullShare ∗ ∃ W, owes (c : Thread nD τ) (ow c a b) W)
          -∗ run c k Q)
        -∗ run c (waitQ s p hi hw (waitQ r p hi hw (waitO s' p' hi' hw' (waitO r' p' hi' hw' k)))) Q) := by
  have l1 : ∀ q, lv (dc c (snd f q h)) () < h + 1 + 2 := fun q => by rw [lv_snd hh]; omega
  have l2 : ∀ q, lv (dc c (rcv f q h)) () < h + 1 + 2 := fun q => by rw [lv_rcv hh]; omega
  unfold hopB hopC legB legC
  iintro ⟨#HI, #HL, ⟨⟨Hs1, Hr1, Hcs1, Hcr1⟩, Hs2, Hr2, Hcs2, Hcr2⟩, Hh, HO⟩ Hk
  iapply (waitQ_step wq wo K c six_snd (snd_lt hh) (amt_snd hh) hs hi hw ha hb (l1 true) _ Q) $$ [Hcs1 HO Hs1]
  · rw [amt_snd hh]
    isplitr; · iexact HI
    isplitr; · iexact HL
    isplitl [Hcs1]; · iexact Hcs1
    isplitl [HO]; · iexact HO
    iexact Hs1
  rw [pay_snd wq wo c hh]
  iintro ⟨HO, Hs1, Hp1⟩
  iapply (waitQ_step wq wo K c six_rcv (rcv_lt hh) (amt_rcv hh) hr hi hw ha hb (l2 true) _ Q) $$ [Hcr1 HO Hr1]
  · rw [amt_rcv hh]
    isplitr; · iexact HI
    isplitr; · iexact HL
    isplitl [Hcr1]; · iexact Hcr1
    isplitl [HO]; · iexact HO
    iexact Hr1
  rw [pay_rcv wq wo c hh]
  iintro ⟨HO, Hr1, Hn1⟩
  iapply (waitO_step wq wo K c six_snd (snd_lt hh) (amt_snd hh) hs' hi' hw' ha hb (l1 false) _ Q) $$ [Hcs2 HO Hs2]
  · rw [amt_snd hh]
    isplitr; · iexact HI
    isplitr; · iexact HL
    isplitl [Hcs2]; · iexact Hcs2
    isplitl [HO]; · iexact HO
    iexact Hs2
  rw [pay_snd wq wo c hh]
  iintro ⟨HO, Hs2, Hp2⟩
  iapply (waitO_step wq wo K c six_rcv (rcv_lt hh) (amt_rcv hh) hr' hi' hw' ha hb (l2 false) _ Q) $$ [Hcr2 HO Hr2]
  · rw [amt_rcv hh]
    isplitr; · iexact HI
    isplitr; · iexact HL
    isplitl [Hcr2]; · iexact Hcr2
    isplitl [HO]; · iexact HO
    iexact Hr2
  rw [pay_rcv wq wo c hh]
  iintro ⟨HO, Hr2, Hn2⟩
  iapply Hk
  isplitl [Hs1 Hr1 Hs2 Hr2 Hp1 Hp2 Hh]
  · isplitl [Hs1 Hr1 Hs2 Hr2]
    · isplitl [Hs1 Hr1]
      · isplitl [Hs1]; · iexact Hs1
        iexact Hr1
      isplitl [Hs2]; · iexact Hs2
      iexact Hr2
    iapply (held_join wq wo f c h (tot f h))
    isplitl [Hp1 Hp2]
    · unfold held
      isplitl [Hp1]; · iexact Hp1
      iexact Hp2
    iexact Hh
  isplitl [Hn1 Hn2]
  · unfold held
    isplitl [Hn1]; · iexact Hn1
    iexact Hn2
  iexact HO

/-! ## The kernel's own hops -/

theorem launchF_step (K : GSem nD τ sig → ℕ) (c : Dev nD) (h : Fin 16) (o : ℕ) (k : P F) (Q : PUnit → sProp 𝕄) :
    iprop(invAll wq wo K ∗ hopA true c h.val ∗ held wq wo true c h.val (tot true h.val)
        ∗ ∃ W, owes (c : Thread nD τ) (ow c h.val o) W)
      ⊢ iprop(((hopB true c h.val ∗ held wq wo true c h.val (tot true h.val).right
            ∗ ∃ W, owes (c : Thread nD τ) (ow c (h.val + 1) o) W) -∗ run c k Q)
        -∗ run c (launchF c h k) Q) :=
  launch_step wq wo K true c h.isLt o (devR_eq c) (sem_s2 h) (sem_s3 h) (sem_s4 h) (sem_s5 h) (off3_eq c h)
    (off4_eq c h) (k0_off3_inb c h) (k0_off3_wordsbf16 c h) (k0_off4_inb c h) (k0_off4_wordsbf16 c h) k Q
theorem launchB_step (K : GSem nD τ sig → ℕ) (c : Dev nD) (h : Fin 15) (o : ℕ) (k : P F) (Q : PUnit → sProp 𝕄) :
    iprop(invAll wq wo K ∗ hopA false c h.val ∗ held wq wo false c h.val (tot false h.val)
        ∗ ∃ W, owes (c : Thread nD τ) (ow c o h.val) W)
      ⊢ iprop(((hopB false c h.val ∗ held wq wo false c h.val (tot false h.val).right
            ∗ ∃ W, owes (c : Thread nD τ) (ow c o (h.val + 1)) W) -∗ run c k Q)
        -∗ run c (launchB c h k) Q) :=
  launch_step wq wo K false c h.isLt o (devL_eq c) (sem_s6 h) (sem_s7 h) (sem_s8 h) (sem_s9 h) (off5_eq c h.castSucc)
    (off6_eq c h.castSucc) (k0_off5_inb c h.castSucc) (k0_off5_wordsbf16 c h.castSucc) (k0_off6_inb c h.castSucc)
    (k0_off6_wordsbf16 c h.castSucc) k Q
theorem arriveF_step (K : GSem nD τ sig → ℕ) (c : Dev nD) (r o : Fin 16) {a b : ℕ} (ha : r.val + 1 ≤ a)
    (hb : r.val + 1 ≤ b) (k : P F) (Q : PUnit → sProp 𝕄) :
    iprop(invAll wq wo K ∗ levAts L lv ∗ hopB true c r.val ∗ held wq wo true c r.val (tot true r.val).right
        ∗ ∃ W, owes (c : Thread nD τ) (ow c a b) W)
      ⊢ iprop(((hopC wq wo true c r.val ∗ held wq wo true c (r.val + 1) fullShare
            ∗ ∃ W, owes (c : Thread nD τ) (ow c a b) W) -∗ run c k Q)
        -∗ run c (arriveF c r o k) Q) :=
  arrive_step wq wo K true c r.isLt ha hb (sem_s2 r) (sem_s3 r) (sem_s4 r) (sem_s5 r) (k0_off3_inb c o)
    (k0_off3_wordsbf16 c o) (k0_off4_inb c o) (k0_off4_wordsbf16 c o) k Q
theorem arriveB_step (K : GSem nD τ sig → ℕ) (c : Dev nD) (r : Fin 15) {a b : ℕ} (ha : r.val + 1 ≤ a)
    (hb : r.val + 1 ≤ b) (k : P F) (Q : PUnit → sProp 𝕄) :
    iprop(invAll wq wo K ∗ levAts L lv ∗ hopB false c r.val ∗ held wq wo false c r.val (tot false r.val).right
        ∗ ∃ W, owes (c : Thread nD τ) (ow c a b) W)
      ⊢ iprop(((hopC wq wo false c r.val ∗ held wq wo false c (r.val + 1) fullShare
            ∗ ∃ W, owes (c : Thread nD τ) (ow c a b) W) -∗ run c k Q)
        -∗ run c (arriveB c r k) Q) :=
  arrive_step wq wo K false c r.isLt ha hb (sem_s6 r) (sem_s7 r) (sem_s8 r) (sem_s9 r) (k0_off5_inb c r.succ)
    (k0_off5_wordsbf16 c r.succ) (k0_off6_inb c r.succ) (k0_off6_wordsbf16 c r.succ) k Q

section
variable (c : Dev nD) (x : FVec F S256x512 .bf16) (X V : Vec F S2x128x128x64 .bf16)

/-- What a chunk works with besides its shards: the keys, the values and the accumulator. -/
def desk (g : Vec F S2x128x512 .f32) : sProp 𝕄 := iprop(kAt c X ∗ vAt c V ∗ accAt c g)

theorem held_chunk (f : Bool) (h : ℕ) (sh : PosShare TreeShare) (g : Vec F S2x128x512 .f32)
    {oq : Fin 3 → ℕ} (eq : oq = ![(pos f c h).val, 0, 0]) (hq : ∀ a, oq a + S1x512x256.size a ≤ S32x512x256.size a)
    {o0 : Fin 4 → ℕ} (e0 : o0 = ![0, 4 * (pos f c h).val, 0, 0])
    (h0 : ∀ a, o0 a + S1x4x128x64.size a ≤ S2x128x128x64.size a)
    {o1 : Fin 4 → ℕ} (e1 : o1 = ![1, 4 * (pos f c h).val, 0, 0])
    (h1 : ∀ a, o1 a + S1x4x128x64.size a ≤ S2x128x128x64.size a)
    {oo : Fin 3 → ℕ} (eo : oo = ![(pos f c h).val, 0, 0]) (ho : ∀ a, oo a + S1x256x512.size a ≤ S32x256x512.size a)
    (k : P F) (Q : PUnit → sProp 𝕄) :
    iprop(held wq wo f c h sh ∗ desk c X V g)
      ⊢ iprop(((held wq wo f c h sh ∗ desk c X V (step wq wo c x X V (pos f c h) g)) -∗ run c k Q)
        -∗ run c (chunk (Memref.whole cc0_stg3_0) (Memref.whole cc0_stg4_0) (Memref.whole cc0_stg5_0) c x
            oq hq o0 h0 o1 h1 oo ho k) Q) := by
  unfold held desk
  iintro ⟨⟨H1, H2⟩, HK, HV, Ha⟩ Hk
  iapply (chunk_step wq wo c x X V (pos f c h) sh sh g eq hq e0 h0 e1 h1 eo ho k Q) $$ [H1 H2 HK HV Ha]
  · isplitl [H1]; · iexact H1
    isplitl [H2]; · iexact H2
    isplitl [HK]; · iexact HK
    isplitl [HV]; · iexact HV
    iexact Ha
  iintro ⟨H1, H2, HK, HV, Ha⟩
  iapply Hk
  isplitl [H1 H2]
  · isplitl [H1]; · iexact H1
    iexact H2
  isplitl [HK]; · iexact HK
  isplitl [HV]; · iexact HV
  iexact Ha

/-- The three windows a chunk touches. -/
abbrev chunkFs (h : Fin 16) (k : P F) : P F :=
  chunkF (Memref.whole cc0_stg3_0) (Memref.whole cc0_stg4_0) (Memref.whole cc0_stg5_0) c x h k
abbrev chunkBs (r : Fin 15) (k : P F) : P F :=
  chunkB (Memref.whole cc0_stg3_0) (Memref.whole cc0_stg4_0) (Memref.whole cc0_stg5_0) c x r k

theorem chunkF_step (h : Fin 16) (sh : PosShare TreeShare) (g : Vec F S2x128x512 .f32) (k : P F)
    (Q : PUnit → sProp 𝕄) :
    iprop(held wq wo true c h.val sh ∗ desk c X V g)
      ⊢ iprop(((held wq wo true c h.val sh ∗ desk c X V (step wq wo c x X V (pos true c h.val) g)) -∗ run c k Q)
        -∗ run c (chunkFs c x h k) Q) :=
  held_chunk wq wo c x X V true h.val sh g (off7_eq c h) (k0_off7_inb c h) (off8_eq c h) (k0_off8_inb c h)
    (off9_eq c h) (k0_off9_inb c h) (off10_eq c h) (k0_off10_inb c h) k Q
theorem chunkB_step (r : Fin 15) (sh : PosShare TreeShare) (g : Vec F S2x128x512 .f32) (k : P F)
    (Q : PUnit → sProp 𝕄) :
    iprop(held wq wo false c (r.val + 1) sh ∗ desk c X V g)
      ⊢ iprop(((held wq wo false c (r.val + 1) sh ∗ desk c X V (step wq wo c x X V (pos false c (r.val + 1)) g))
          -∗ run c k Q)
        -∗ run c (chunkBs c x r k) Q) :=
  held_chunk wq wo c x X V false (r.val + 1) sh g (off11_eq c r) (k0_off11_inb c r) (off12_eq c r) (k0_off12_inb c r)
    (off13_eq c r) (k0_off13_inb c r) (off14_eq c r) (k0_off14_inb c r) k Q
end

end Cert.KernelIdeal.Ring

end
-- ==== Proof.Hops.lean ====
/- The run round the ring, from the meeting to the last chunk. -/
module

public import proofs.«01_k».proof.Proof.Legs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (wq : Dev nD → Vec F S512x256 .bf16) (wo : Dev nD → Vec F S256x512 .bf16)

section
variable (c : Dev nD) (x : FVec F S256x512 .bf16) (X V : Vec F S2x128x128x64 .bf16)

/-- The accumulator when hop `a` is in flight both ways. -/
def accs : ℕ → Vec F S2x128x512 .f32
  | 0 => step wq wo c x X V (pos true c 0) (k0_pay12 (F := F))
  | a + 1 => step wq wo c x X V (pos false c (a + 1)) (step wq wo c x X V (pos true c (a + 1)) (accs a))
/-- The accumulator at the end. -/
def accEnd : Vec F S2x128x512 .f32 := step wq wo c x X V (pos true c 16) (accs wq wo c x X V 15)

/-- The hops of a direction that are over. -/
def done (f : Bool) (a : ℕ) : sProp 𝕄 := bigSep (Finset.range a) fun h => hopC wq wo f c h
/-- The hops of a direction still to launch. -/
def todo (f : Bool) (a : ℕ) : sProp 𝕄 := bigSep (Finset.Ico a (len f)) fun h => hopA (F := F) f c h

theorem done_succ (f : Bool) (a : ℕ) : done wq wo c f (a + 1) = iprop(hopC wq wo f c a ∗ done wq wo c f a) := by
  unfold done
  rw [Finset.range_add_one, bigSep_insert Finset.notMem_range_self]; rfl
theorem todo_head {f : Bool} {a : ℕ} (h : a < len f) :
    todo (F := F) c f a = iprop(hopA f c a ∗ todo (F := F) c f (a + 1)) := by
  unfold todo
  have e : Finset.Ico a (len f) = insert a (Finset.Ico (a + 1) (len f)) := by
    ext y; rw [Finset.mem_insert, Finset.mem_Ico, Finset.mem_Ico]; omega
  rw [e, bigSep_insert (by rw [Finset.mem_Ico]; omega)]; rfl

theorem tot_succ (f : Bool) (h : ℕ) : tot f (h + 1) = fullShare := by cases f <;> rfl

/-- What a device has when hop `a` is in flight both ways. -/
def mid (a : ℕ) : sProp 𝕄 :=
  iprop((done wq wo c true a ∗ done wq wo c false a)
    ∗ (hopB true c a ∗ held wq wo true c a (tot true a).right)
    ∗ (hopB false c a ∗ held wq wo false c a (tot false a).right)
    ∗ (todo (F := F) c true (a + 1) ∗ todo (F := F) c false (a + 1))
    ∗ (∃ W, owes (c : Thread nD τ) (ow c (a + 1) (a + 1)) W) ∗ desk c X V (accs wq wo c x X V a))

/-- What a device has when every hop is over. -/
def fin : sProp 𝕄 :=
  iprop((done wq wo c true 16 ∗ done wq wo c false 15)
    ∗ (held wq wo true c 16 fullShare ∗ held wq wo false c 15 fullShare)
    ∗ (∃ W, owes (c : Thread nD τ) (0 : CellTallies nD τ sig Unit) W) ∗ desk c X V (accEnd wq wo c x X V))

theorem ow_last : ow c 16 15 = 0 := by
  unfold ow
  rw [owL_len (f := true) (le_refl 16), owL_len (f := true) (le_refl 16), owL_len (f := false) (le_refl 15),
    owL_len (f := false) (le_refl 15)]
  simp
theorem ow_end : ow c 16 16 = 0 := by
  unfold ow
  rw [owL_len (f := true) (le_refl 16), owL_len (f := true) (le_refl 16),
    owL_len (f := false) (show 15 ≤ 16 by omega), owL_len (f := false) (show 15 ≤ 16 by omega)]
  simp

/-- The hops, over the windows' buffers. -/
abbrev hopsAt (n : ℕ) : P F :=
  hops (Memref.whole cc0_stg3_0) (Memref.whole cc0_stg4_0) (Memref.whole cc0_stg5_0) c x n
/-- The closing, over the windows' buffers. -/
abbrev closingAt : P F :=
  closing (Memref.whole cc0_stg3_0) (Memref.whole cc0_stg4_0) (Memref.whole cc0_stg5_0) c x

theorem closing_step (K : GSem nD τ sig → ℕ) (Q : PUnit → sProp 𝕄) :
    iprop(invAll wq wo K ∗ levAts L lv ∗ (done wq wo c true 15 ∗ done wq wo c false 15)
        ∗ (hopB true c 15 ∗ held wq wo true c 15 (tot true 15).right) ∗ held wq wo false c 15 fullShare
        ∗ (∃ W, owes (c : Thread nD τ) (ow c 16 15) W) ∗ desk c X V (accs wq wo c x X V 15))
      ⊢ iprop((fin wq wo c x X V -∗ run c (.ret ⟨⟩) Q) -∗ run c (closingAt c x) Q) := by
  unfold closingAt closing
  rw [ow_last, ← ow_end c]
  iintro ⟨#HI, #HL, ⟨HdF, HdB⟩, ⟨HB, Hh⟩, Hb, HO, Hdesk⟩ Hk
  iapply (arriveF_step wq wo K c 15 15 (a := 16) (b := 16) le_rfl le_rfl _ Q) $$ [HB Hh HO]
  · isplitr; · iexact HI
    isplitr; · iexact HL
    isplitl [HB]; · iexact HB
    isplitl [Hh]; · iexact Hh
    iexact HO
  rw [ow_end c]
  iintro ⟨HC, Hn, HO⟩
  iapply (held_chunk wq wo c x X V true 16 fullShare (accs wq wo c x X V 15) (off15_eq c) (k0_off15_inb c)
    (off16_eq c) (k0_off16_inb c) (off17_eq c) (k0_off17_inb c) (off18_eq c) (k0_off18_inb c) _ Q) $$ [Hn Hdesk]
  · isplitl [Hn]; · iexact Hn
    iexact Hdesk
  iintro ⟨Hn, Hdesk⟩
  iapply Hk
  unfold fin accEnd
  rw [done_succ wq wo c true 15]
  isplitl [HC HdF HdB]
  · isplitl [HC HdF]
    · isplitl [HC]; · iexact HC
      iexact HdF
    iexact HdB
  isplitl [Hn Hb]
  · isplitl [Hn]; · iexact Hn
    iexact Hb
  isplitl [HO]; · iexact HO
  iexact Hdesk

theorem last_step (K : GSem nD τ sig → ℕ) (Q : PUnit → sProp 𝕄) :
    iprop(invAll wq wo K ∗ levAts L lv ∗ mid wq wo c x X V 14)
      ⊢ iprop((fin wq wo c x X V -∗ run c (.ret ⟨⟩) Q) -∗ run c (hopsAt c x 0) Q) := by
  show _ ⊢ iprop(_ -∗ run c (arriveF c 14 15 <| arriveB c 14 <| launchF c 15 <| chunkFs c x 15 <|
    chunkBs c x 14 <| closingAt c x) Q)
  unfold mid
  rw [todo_head (F := F) c (f := true) (a := 15) (by decide)]
  iintro ⟨#HI, #HL, ⟨HdF, HdB⟩, ⟨HBF, HhF⟩, ⟨HBB, HhB⟩, ⟨⟨HA, -⟩, -⟩, HO, Hdesk⟩ Hk
  iapply (arriveF_step wq wo K c 14 15 (a := 15) (b := 15) le_rfl le_rfl _ Q) $$ [HBF HhF HO]
  · isplitr; · iexact HI
    isplitr; · iexact HL
    isplitl [HBF]; · iexact HBF
    isplitl [HhF]; · iexact HhF
    iexact HO
  iintro ⟨HCF, HnF, HO⟩
  iapply (arriveB_step wq wo K c 14 (a := 15) (b := 15) le_rfl le_rfl _ Q) $$ [HBB HhB HO]
  · isplitr; · iexact HI
    isplitr; · iexact HL
    isplitl [HBB]; · iexact HBB
    isplitl [HhB]; · iexact HhB
    iexact HO
  iintro ⟨HCB, HnB, HO⟩
  iapply (launchF_step wq wo K c 15 15 _ Q) $$ [HA HnF HO]
  · isplitr; · iexact HI
    isplitl [HA]; · iexact HA
    isplitl [HnF]; · iexact HnF
    iexact HO
  iintro ⟨HBF, HhF, HO⟩
  iapply (chunkF_step wq wo c x X V 15 (tot true 15).right (accs wq wo c x X V 14) _ Q) $$ [HhF Hdesk]
  · isplitl [HhF]; · iexact HhF
    iexact Hdesk
  iintro ⟨HhF, Hdesk⟩
  iapply (chunkB_step wq wo c x X V 14 fullShare _ _ Q) $$ [HnB Hdesk]
  · isplitl [HnB]; · iexact HnB
    iexact Hdesk
  iintro ⟨HnB, Hdesk⟩
  iapply (closing_step wq wo c x X V K Q) $$ [HCF HCB HdF HdB HBF HhF HnB HO Hdesk]
  · rw [done_succ wq wo c true 14, done_succ wq wo c false 14]
    isplitr; · iexact HI
    isplitr; · iexact HL
    isplitl [HCF HCB HdF HdB]
    · isplitl [HCF HdF]
      · isplitl [HCF]; · iexact HCF
        iexact HdF
      isplitl [HCB]; · iexact HCB
      iexact HdB
    isplitl [HBF HhF]
    · isplitl [HBF]; · iexact HBF
      iexact HhF
    isplitl [HnB]; · iexact HnB
    isplitl [HO]; · iexact HO
    iexact Hdesk
  iexact Hk

theorem hop_step (K : GSem nD τ sig → ℕ) (Q : PUnit → sProp 𝕄) {a : ℕ} (ha : a < 14) (k : P F) :
    iprop(invAll wq wo K ∗ levAts L lv ∗ mid wq wo c x X V a)
      ⊢ iprop((mid wq wo c x X V (a + 1) -∗ run c k Q)
        -∗ run c (arriveF c ⟨a, by omega⟩ ⟨a + 1, by omega⟩ <| arriveB c ⟨a, by omega⟩ <|
          launchF c ⟨a + 1, by omega⟩ <| launchB c ⟨a + 1, by omega⟩ <| chunkFs c x ⟨a + 1, by omega⟩ <|
          chunkBs c x ⟨a, by omega⟩ k) Q) := by
  unfold mid
  rw [todo_head (F := F) c (f := true) (a := a + 1) (by show _ < 16; omega),
    todo_head (F := F) c (f := false) (a := a + 1) (by show _ < 15; omega)]
  iintro ⟨#HI, #HL, ⟨HdF, HdB⟩, ⟨HBF, HhF⟩, ⟨HBB, HhB⟩, ⟨⟨HAF, HtF⟩, HAB, HtB⟩, HO, Hdesk⟩ Hk
  iapply (arriveF_step wq wo K c _ _ (a := a + 1) (b := a + 1) le_rfl le_rfl _ Q) $$ [HBF HhF HO]
  · isplitr; · iexact HI
    isplitr; · iexact HL
    isplitl [HBF]; · iexact HBF
    isplitl [HhF]; · iexact HhF
    iexact HO
  iintro ⟨HCF, HnF, HO⟩
  iapply (arriveB_step wq wo K c _ (a := a + 1) (b := a + 1) le_rfl le_rfl _ Q) $$ [HBB HhB HO]
  · isplitr; · iexact HI
    isplitr; · iexact HL
    isplitl [HBB]; · iexact HBB
    isplitl [HhB]; · iexact HhB
    iexact HO
  iintro ⟨HCB, HnB, HO⟩
  iapply (launchF_step wq wo K c _ (a + 1) _ Q) $$ [HAF HnF HO]
  · isplitr; · iexact HI
    isplitl [HAF]; · iexact HAF
    isplitl [HnF]; · iexact HnF
    iexact HO
  iintro ⟨HBF, HhF, HO⟩
  iapply (launchB_step wq wo K c _ (a + 2) _ Q) $$ [HAB HnB HO]
  · isplitr; · iexact HI
    isplitl [HAB]; · iexact HAB
    isplitl [HnB]; · iexact HnB
    iexact HO
  iintro ⟨HBB, HhB, HO⟩
  iapply (chunkF_step wq wo c x X V _ (tot true (a + 1)).right (accs wq wo c x X V a) _ Q) $$ [HhF Hdesk]
  · isplitl [HhF]; · iexact HhF
    iexact Hdesk
  iintro ⟨HhF, Hdesk⟩
  iapply (chunkB_step wq wo c x X V _ (tot false (a + 1)).right _ _ Q) $$ [HhB Hdesk]
  · isplitl [HhB]; · iexact HhB
    iexact Hdesk
  iintro ⟨HhB, Hdesk⟩
  iapply Hk
  rw [done_succ wq wo c true a, done_succ wq wo c false a]
  isplitl [HCF HCB HdF HdB]
  · isplitl [HCF HdF]
    · isplitl [HCF]; · iexact HCF
      iexact HdF
    isplitl [HCB]; · iexact HCB
    iexact HdB
  isplitl [HBF HhF]
  · isplitl [HBF]; · iexact HBF
    iexact HhF
  isplitl [HBB HhB]
  · isplitl [HBB]; · iexact HBB
    iexact HhB
  isplitl [HtF HtB]
  · isplitl [HtF]; · iexact HtF
    iexact HtB
  isplitl [HO]; · iexact HO
  iexact Hdesk

theorem hops_run (K : GSem nD τ sig → ℕ) (Q : PUnit → sProp 𝕄) : ∀ n a : ℕ, n + a = 14 →
    iprop(invAll wq wo K ∗ levAts L lv ∗ mid wq wo c x X V a)
      ⊢ iprop((fin wq wo c x X V -∗ run c (.ret ⟨⟩) Q) -∗ run c (hopsAt c x n) Q)
  | 0, a, h => by
    obtain rfl : a = 14 := by omega
    exact last_step wq wo c x X V K Q
  | n + 1, a, h => by
    obtain rfl : a = 13 - n := by omega
    iintro ⟨#HI, #HL, Hm⟩ Hk
    iapply (hop_step wq wo c x X V K Q (a := 13 - n) (by omega) (hopsAt c x n)) $$ [Hm]
    · isplitr; · iexact HI
      isplitr; · iexact HL
      iexact Hm
    iintro Hm
    iapply (hops_run K Q n (13 - n + 1) (by omega)) $$ [Hm]
    · isplitr; · iexact HI
      isplitr; · iexact HL
      iexact Hm
    iexact Hk

/-- What a device has after the meeting. -/
def met : sProp 𝕄 :=
  iprop((todo (F := F) c true 0 ∗ todo (F := F) c false 0) ∗ (part wq wo true c c fullShare ∗ part wq wo false c c fullShare)
    ∗ (∃ W, owes (c : Thread nD τ) (ow c 0 0) W) ∗ desk c X V (k0_pay12 (F := F)))

theorem own_split : iprop(part wq wo true c c fullShare ∗ part wq wo false c c fullShare)
    ⊢ iprop(held wq wo true c 0 fullShare.left ∗ held wq wo false c 0 fullShare.right) := by
  unfold held
  rw [pos_zero, pos_zero]
  iintro ⟨H1, H2⟩
  ihave H1 := (part_split wq wo true c c fullShare).1 $$ H1
  ihave H2 := (part_split wq wo false c c fullShare).1 $$ H2
  icases H1 with ⟨H1, H1'⟩
  icases H2 with ⟨H2, H2'⟩
  isplitl [H1 H2]
  · isplitl [H1]; · iexact H1
    iexact H2
  isplitl [H1']; · iexact H1'
  iexact H2'

theorem ring_run (K : GSem nD τ sig → ℕ) (Q : PUnit → sProp 𝕄) :
    iprop(invAll wq wo K ∗ levAts L lv ∗ met wq wo c X V)
      ⊢ iprop((fin wq wo c x X V -∗ run c (.ret ⟨⟩) Q)
        -∗ run c (ring (Memref.whole cc0_stg3_0) (Memref.whole cc0_stg4_0) (Memref.whole cc0_stg5_0) c x) Q) := by
  unfold ring met
  rw [todo_head (F := F) c (f := true) (a := 0) (by decide), todo_head (F := F) c (f := false) (a := 0) (by decide)]
  iintro ⟨#HI, #HL, ⟨⟨HAF, HtF⟩, HAB, HtB⟩, Hown, HO, Hdesk⟩ Hk
  ihave Hown := (own_split wq wo c) $$ Hown
  icases Hown with ⟨HF, HB⟩
  iapply (launchF_step wq wo K c 0 0 _ Q) $$ [HAF HF HO]
  · isplitr; · iexact HI
    isplitl [HAF]; · iexact HAF
    isplitl [HF]; · iexact HF
    iexact HO
  iintro ⟨HBF, HhF, HO⟩
  iapply (launchB_step wq wo K c 0 1 _ Q) $$ [HAB HB HO]
  · isplitr; · iexact HI
    isplitl [HAB]; · iexact HAB
    isplitl [HB]; · iexact HB
    iexact HO
  iintro ⟨HBB, HhB, HO⟩
  iapply (chunkF_step wq wo c x X V 0 (tot true 0).right (k0_pay12 (F := F)) _ Q) $$ [HhF Hdesk]
  · isplitl [HhF]; · iexact HhF
    iexact Hdesk
  iintro ⟨HhF, Hdesk⟩
  iapply (hops_run wq wo c x X V K Q 14 0 rfl) $$ [HBF HhF HBB HhB HtF HtB HO Hdesk]
  · isplitr; · iexact HI
    isplitr; · iexact HL
    unfold mid done
    rw [Finset.range_zero, bigSep_empty, bigSep_empty]
    isplitr
    · isplitr
      · iempintro
      iempintro
    isplitl [HBF HhF]
    · isplitl [HBF]; · iexact HBF
      iexact HhF
    isplitl [HBB HhB]
    · isplitl [HBB]; · iexact HBB
      iexact HhB
    isplitl [HtF HtB]
    · isplitl [HtF]; · iexact HtF
      iexact HtB
    isplitl [HO]; · iexact HO
    iexact Hdesk
  iexact Hk
end

end Cert.KernelIdeal.Ring

end
-- ==== Proof.Deal.lean ====
/- The cells and the slots dealt hop by hop. -/
module

public import proofs.«01_k».proof.Proof.Hops

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (wq : Dev nD → Vec F S512x256 .bf16) (wo : Dev nD → Vec F S256x512 .bf16)

/-! ## Regrouping -/

section
variable {M : Type} [URA M] (Φ : ℕ → sProp M)

theorem of_both {P Q : sProp M} (h : P ⊣⊢ Q) : P = Q := BI.Entails.antisymm h.1 h.2

theorem each {I : Type} (s : Finset I) {A B : I → sProp M} (h : ∀ i ∈ s, A i ⊢ B i) : bigSep s A ⊢ bigSep s B :=
  bigSep_mono h

theorem range_last (n : ℕ) : bigSep (Finset.range (n + 1)) Φ = iprop(Φ n ∗ bigSep (Finset.range n) Φ) := by
  rw [Finset.range_add_one, bigSep_insert Finset.notMem_range_self]; rfl

theorem range_add (a b : ℕ) : bigSep (Finset.range (a + b)) Φ
    = iprop(bigSep (Finset.range b) (fun h => Φ (a + h)) ∗ bigSep (Finset.range a) Φ) := by
  induction b with
  | zero =>
    rw [Finset.range_zero, bigSep_empty]
    exact (BI.equiv_iff.mp BI.emp_sep).symm
  | succ b ih =>
    rw [← Nat.add_assoc, range_last, ih, range_last (fun h => Φ (a + h))]
    exact (of_both Laws.sep_assoc).symm

theorem range_one : bigSep (Finset.range 1) Φ = Φ 0 := by
  rw [Finset.range_one, bigSep_singleton]

/-- The first of a run apart. -/
theorem range_first (n : ℕ) : bigSep (Finset.range (n + 1)) Φ
    = iprop(bigSep (Finset.range n) (fun h => Φ (h + 1)) ∗ Φ 0) := by
  rw [Nat.add_comm n 1, range_add, range_one]
  exact congrArg (fun X => iprop(X ∗ Φ 0)) (bigSep_congr fun h _ => by rw [Nat.add_comm])

theorem fin_range (n : ℕ) :
    bigSep (Finset.univ : Finset (Fin n)) (fun k => Φ k.val) = bigSep (Finset.range n) Φ := by
  have e : (Finset.univ : Finset (Fin n)).map Fin.valEmbedding = Finset.range n := by
    ext y; simp only [Finset.mem_map, Finset.mem_univ, true_and, Fin.valEmbedding_apply, Finset.mem_range]
    exact ⟨fun ⟨k, hk⟩ => hk ▸ k.isLt, fun h => ⟨⟨y, h⟩, rfl⟩⟩
  rw [← e, bigSep_map]
  rfl

/-- A family over the cells of a direction's hops. -/
def legs (f : Bool) : sProp M :=
  bigSep (Finset.range (len f)) fun h =>
    iprop((Φ (snd f true h) ∗ Φ (rcv f true h)) ∗ (Φ (snd f false h) ∗ Φ (rcv f false h)))

theorem sep_eq (A B : ℕ → sProp M) (n : ℕ) : bigSep (Finset.range n) (fun h => iprop(A h ∗ B h))
    = iprop(bigSep (Finset.range n) A ∗ bigSep (Finset.range n) B) := bigSep_sep _ _ _

/-- The DMA cells are the two directions' cells. -/
theorem cells_legs : bigSep (Finset.univ : Finset (Fin 124)) (fun k => Φ (6 + k.val)) = iprop(legs Φ true ∗ legs Φ false) := by
  rw [fin_range (fun k => Φ (6 + k)), show (124 : ℕ) = 16 + 16 + 16 + 16 + 15 + 15 + 15 + 15 from rfl,
    range_add, range_add, range_add, range_add, range_add, range_add, range_add]
  unfold legs
  rw [sep_eq, sep_eq, sep_eq, sep_eq, sep_eq, sep_eq]
  have e (a b n : ℕ) (hb : b = 6 + a) : bigSep (Finset.range n) (fun h => Φ (6 + (a + h)))
      = bigSep (Finset.range n) (fun h => Φ (b + h)) :=
    bigSep_congr fun h _ => by rw [hb, Nat.add_assoc]
  rw [e 16 22 _ rfl, e (16 + 16) 38 _ rfl, e (16 + 16 + 16) 54 _ rfl, e (16 + 16 + 16 + 16) 70 _ rfl,
    e (16 + 16 + 16 + 16 + 15) 85 _ rfl, e (16 + 16 + 16 + 16 + 15 + 15) 100 _ rfl,
    e (16 + 16 + 16 + 16 + 15 + 15 + 15) 115 _ rfl]
  apply of_both
  constructor
  · iintro ⟨H8, H7, H6, H5, H4, H3, H2, H1⟩
    isplitl [H1 H2 H3 H4]
    · isplitl [H1 H2]
      · isplitl [H1]; · iexact H1
        iexact H2
      isplitl [H3]; · iexact H3
      iexact H4
    isplitl [H5 H6]
    · isplitl [H5]; · iexact H5
      iexact H6
    isplitl [H7]; · iexact H7
    iexact H8
  · iintro ⟨⟨⟨H1, H2⟩, H3, H4⟩, ⟨H5, H6⟩, H7, H8⟩
    isplitl [H8]; · iexact H8
    isplitl [H7]; · iexact H7
    isplitl [H6]; · iexact H6
    isplitl [H5]; · iexact H5
    isplitl [H4]; · iexact H4
    isplitl [H3]; · iexact H3
    isplitl [H2]; · iexact H2
    iexact H1

theorem every_place (c : Dev nD) : (Finset.univ : Finset (Dev nD))
    = insert c ((Finset.range (len true)).image (fun h => pos true c (h + 1))
        ∪ (Finset.range (len false)).image (fun h => pos false c (h + 1))) := by
  ext s
  simp only [Finset.mem_univ, Finset.mem_insert, Finset.mem_union, Finset.mem_image, Finset.mem_range, true_iff]
  have hc := c.isLt
  have hs := s.isLt
  by_cases h0 : s = c
  · exact .inl h0
  right
  have hne : s.val ≠ c.val := fun h => h0 (Fin.ext h)
  by_cases h1 : (c.val + 32 - s.val) % 32 ≤ 16
  · left
    refine ⟨(c.val + 32 - s.val) % 32 - 1, ?_, Fin.ext ?_⟩ <;> dsimp only [pos, len, nD] at * <;> omega
  · right
    refine ⟨(s.val + 32 - c.val) % 32 - 1, ?_, Fin.ext ?_⟩ <;> dsimp only [pos, len, nD] at * <;> omega

theorem image_eq (Ψ : Dev nD → sProp M) (g : ℕ → Dev nD) (n : ℕ)
    (hg : ∀ a < n, ∀ b < n, g a = g b → a = b) :
    bigSep ((Finset.range n).image g) Ψ = bigSep (Finset.range n) fun h => Ψ (g h) := by
  induction n with
  | zero => rw [Finset.range_zero, Finset.image_empty, bigSep_empty, bigSep_empty]
  | succ n ih =>
    rw [range_last, ← ih fun a ha b hb => hg a (by omega) b (by omega), Finset.range_add_one, Finset.image_insert,
      bigSep_insert]
    · rfl
    · intro h
      obtain ⟨a, ha, e⟩ := Finset.mem_image.mp h
      rw [Finset.mem_range] at ha
      have := hg a (by omega) n (by omega) e
      omega

/-- A family over the places, the device's own apart, the others in the order they arrive. -/
theorem places_eq (c : Dev nD) (Ψ : Dev nD → sProp M) : bigSep Finset.univ Ψ
    = iprop(Ψ c ∗ bigSep (Finset.range (len true)) (fun h => Ψ (pos true c (h + 1)))
        ∗ bigSep (Finset.range (len false)) (fun h => Ψ (pos false c (h + 1)))) := by
  have hc := c.isLt
  rw [every_place c, bigSep_insert, bigSep_union, image_eq, image_eq]
  · rfl
  · intro a ha b hb e; have := pos_inj_B (by dsimp only [len] at *; omega) (by dsimp only [len] at *; omega) e; omega
  · intro a ha b hb e; have := pos_inj_F (by dsimp only [len] at *; omega) (by dsimp only [len] at *; omega) e; omega
  · rw [Finset.disjoint_left]
    intro s h1 h2
    obtain ⟨a, ha, ea⟩ := Finset.mem_image.mp h1
    obtain ⟨b, hb, eb⟩ := Finset.mem_image.mp h2
    rw [Finset.mem_range] at ha hb
    have := congrArg Fin.val (ea.trans eb.symm)
    dsimp only [pos, len, nD] at ha hb hc this
    rw [show c.val + 32 * (a + 1) - (a + 1) = c.val + 31 * (a + 1) by omega] at this
    have : (a + b + 2) % 32 = 0 := by omega
    omega
  · intro h
    rcases Finset.mem_union.mp h with h | h
    all_goals
      obtain ⟨a, ha, ea⟩ := Finset.mem_image.mp h
      rw [Finset.mem_range] at ha
      have := congrArg Fin.val ea
      dsimp only [pos, len, nD] at *; omega
end

/-! ## The stacks slot by slot -/

/-- A whole stack, at anything. -/
def stack (q : Bool) (c : Dev nD) : sProp 𝕄 :=
  match q with
  | true => iprop(∃ f : Buf (Elt F) ((c : Thread nD τ).loc cc0_scratch0), ((c : Thread nD τ).loc cc0_scratch0) ↦{fullShare} f)
  | false => iprop(∃ f : Buf (Elt F) ((c : Thread nD τ).loc cc0_scratch1), ((c : Thread nD τ).loc cc0_scratch1) ↦{fullShare} f)

theorem slots_disjQ : ∀ s ∈ (Finset.univ : Finset (Dev nD)), ∀ t ∈ (Finset.univ : Finset (Dev nD)), s ≠ t →
    Disjoint (mQ s).view.set (mQ t).view.set := fun s _ t _ h => by
  rw [Finset.disjoint_left]; intro i hs ht
  exact h (((mem_mQ s i).mp hs).symm.trans ((mem_mQ t i).mp ht))
theorem slots_disjO : ∀ s ∈ (Finset.univ : Finset (Dev nD)), ∀ t ∈ (Finset.univ : Finset (Dev nD)), s ≠ t →
    Disjoint (mO s).view.set (mO t).view.set := fun s _ t _ h => by
  rw [Finset.disjoint_left]; intro i hs ht
  exact h (((mem_mO s i).mp hs).symm.trans ((mem_mO t i).mp ht))
theorem slots_allQ : Finset.biUnion (β := S32x512x256.Idx) (Finset.univ : Finset (Dev nD)) (fun s => (mQ s).view.set) = Finset.univ := by
  ext i; simp only [Finset.mem_biUnion, Finset.mem_univ, true_and, iff_true]
  exact ⟨i 0, (mem_mQ _ i).mpr rfl⟩
theorem slots_allO : Finset.biUnion (β := S32x256x512.Idx) (Finset.univ : Finset (Dev nD)) (fun s => (mO s).view.set) = Finset.univ := by
  ext i; simp only [Finset.mem_biUnion, Finset.mem_univ, true_and, iff_true]
  exact ⟨i 0, (mem_mO _ i).mpr rfl⟩

theorem stack_split (q : Bool) (c : Dev nD) : stack (F := F) q c ⊢ bigSep Finset.univ fun s => anyPart (F := F) q c s := by
  cases q
  · unfold stack
    iintro ⟨%f, H⟩
    have e := pointsTo_biUnion (Ix := Unit) (Name := ℕ) (U := UU) (Lvl := ℕ) (ℓ := (c : Thread nD τ).loc cc0_scratch1) (q := fullShare)
      (f := f) Finset.univ (fun s => (mO s).view.set) slots_disjO
    rw [slots_allO] at e
    ihave H := (Entails.of_eq e) $$ H
    have hm (s : Dev nD) : (((c : Thread nD τ).loc cc0_scratch1) ↦[(mO s).view.set]{fullShare} f : sProp 𝕄)
        ⊢ anyPart (F := F) false c s := by
      rw [any_false]
      iintro H; iexists f; iexact H
    have hm' : (bigSep Finset.univ fun s => (((c : Thread nD τ).loc cc0_scratch1) ↦[(mO s).view.set]{fullShare} f : sProp 𝕄))
        ⊢ bigSep Finset.univ fun s => anyPart (F := F) false c s := bigSep_mono fun s _ => hm s
    iapply hm' $$ H
  · unfold stack
    iintro ⟨%f, H⟩
    have e := pointsTo_biUnion (Ix := Unit) (Name := ℕ) (U := UU) (Lvl := ℕ) (ℓ := (c : Thread nD τ).loc cc0_scratch0) (q := fullShare)
      (f := f) Finset.univ (fun s => (mQ s).view.set) slots_disjQ
    rw [slots_allQ] at e
    ihave H := (Entails.of_eq e) $$ H
    have hm (s : Dev nD) : (((c : Thread nD τ).loc cc0_scratch0) ↦[(mQ s).view.set]{fullShare} f : sProp 𝕄)
        ⊢ anyPart (F := F) true c s := by
      rw [any_true]
      iintro H; iexists f; iexact H
    have hm' : (bigSep Finset.univ fun s => (((c : Thread nD τ).loc cc0_scratch0) ↦[(mQ s).view.set]{fullShare} f : sProp 𝕄))
        ⊢ bigSep Finset.univ fun s => anyPart (F := F) true c s := bigSep_mono fun s _ => hm s
    iapply hm' $$ H

/-- Every slot filled with its shard is a whole stack. -/
theorem stack_join (q : Bool) (c : Dev nD) : (bigSep Finset.univ fun s => part wq wo q c s fullShare) ⊢ stack (F := F) q c := by
  cases q
  · unfold stack
    have e := pointsTo_biUnion (Ix := Unit) (Name := ℕ) (U := UU) (Lvl := ℕ) (ℓ := (c : Thread nD τ).loc cc0_scratch1) (q := fullShare)
      (f := (stackO wo : S32x256x512.Idx → Elt F .bf16)) Finset.univ (fun s => (mO s).view.set) slots_disjO
    rw [slots_allO] at e
    have ep : (bigSep Finset.univ fun s => part wq wo false c s fullShare)
        ⊢ (bigSep Finset.univ fun s => (((c : Thread nD τ).loc cc0_scratch1) ↦[(mO s).view.set]{fullShare} (stackO wo)) : sProp 𝕄) :=
      bigSep_mono fun s _ => Entails.of_eq (part_false wq wo c s fullShare)
    iintro H
    ihave H := ep $$ H
    iexists (stackO wo : S32x256x512.Idx → Elt F .bf16)
    iapply (Entails.of_eq e.symm) $$ H
  · unfold stack
    have e := pointsTo_biUnion (Ix := Unit) (Name := ℕ) (U := UU) (Lvl := ℕ) (ℓ := (c : Thread nD τ).loc cc0_scratch0) (q := fullShare)
      (f := (stackQ wq : S32x512x256.Idx → Elt F .bf16)) Finset.univ (fun s => (mQ s).view.set) slots_disjQ
    rw [slots_allQ] at e
    have ep : (bigSep Finset.univ fun s => part wq wo true c s fullShare)
        ⊢ (bigSep Finset.univ fun s => (((c : Thread nD τ).loc cc0_scratch0) ↦[(mQ s).view.set]{fullShare} (stackQ wq)) : sProp 𝕄) :=
      bigSep_mono fun s _ => Entails.of_eq (part_true wq wo c s fullShare)
    iintro H
    ihave H := ep $$ H
    iexists (stackQ wq : S32x512x256.Idx → Elt F .bf16)
    iapply (Entails.of_eq e.symm) $$ H

end Cert.KernelIdeal.Ring

end
-- ==== Proof.Whole.lean ====
/- The whole body on one device. -/
module

public import proofs.«01_k».proof.Proof.Deal

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (wq : Dev nD → Vec F S512x256 .bf16) (wo : Dev nD → Vec F S256x512 .bf16)

section
variable (c : Dev nD)

/-- A DMA cell before its round. -/
def live (n : ℕ) : sProp 𝕄 := iprop(atPos ER (dc c n) 0 ∅ 0 ∗ reached ER (dc c n) 0)
/-- A DMA cell after its round. -/
def over (n : ℕ) : sProp 𝕄 := atPos ER (dc c n) 1 ∅ 0

/-- The duties a device pays in a direction. -/
def toks (f : Bool) : sProp 𝕄 :=
  bigSep (Finset.range (len f)) fun h =>
    iprop((dutyTok ER (dc c (snd f true h)) 0 true ∗ dutyTok ER (dc (nb f c) (rcv f true h)) 0 true)
      ∗ (dutyTok ER (dc c (snd f false h)) 0 true ∗ dutyTok ER (dc (nb f c) (rcv f false h)) 0 true))
/-- The credits for what arrives in a direction. -/
def creds (f : Bool) : sProp 𝕄 :=
  bigSep (Finset.range (len f)) fun h =>
    iprop(cred (tallyAt (dc c (rcv f true h)) () (N true)) ∗ cred (tallyAt (dc c (rcv f false h)) () (N false)))
/-- The slots a direction's arrivals fill, at anything. -/
def empties (f : Bool) : sProp 𝕄 :=
  bigSep (Finset.range (len f)) fun h =>
    iprop(anyPart (F := F) true c (pos f c (h + 1)) ∗ anyPart (F := F) false c (pos f c (h + 1)))
/-- The slots a direction's arrivals fill, filled. -/
def fulls (f : Bool) : sProp 𝕄 := bigSep (Finset.range (len f)) fun h => held wq wo f c (h + 1) fullShare

theorem barPay_nb (f : Bool) : barPay (F := F) (nb (!f) c) f = bigSep (Finset.range (len f)) fun h =>
    iprop((anyPart (F := F) true c (pos f c (h + 1)) ∗ reached ER (dc c (rcv f true h)) 0)
      ∗ (anyPart (F := F) false c (pos f c (h + 1)) ∗ reached ER (dc c (rcv f false h)) 0)) := by
  unfold barPay dst
  refine bigSep_congr fun h _ => ?_
  have e : pos f (nb (!f) c) h = pos f c (h + 1) := by rw [← pos_nb f (nb (!f) c) h, nb_not]
  rw [e, nb_not]

/-- A device's leave to its neighbour to write the slots. -/
theorem pay_intro (f : Bool) : iprop(legs (live (F := F) c) f ∗ empties (F := F) c f)
    ⊢ iprop(legs (live (F := F) c) f ∗ barPay (F := F) (nb (!f) c) f) := by
  rw [barPay_nb]
  unfold legs empties live
  rw [← sep_eq, ← sep_eq]
  refine each _ fun h _ => ?_
  iintro ⟨⟨⟨H1, ⟨H2, #R1⟩⟩, H3, ⟨H4, #R2⟩⟩, HE, HF⟩
  isplitl [H1 H2 H3 H4]
  · isplitl [H1 H2]
    · isplitl [H1]; · iexact H1
      isplitl [H2]; · iexact H2
      iexact R1
    isplitl [H3]; · iexact H3
    isplitl [H4]; · iexact H4
    iexact R2
  isplitl [HE]
  · isplitl [HE]; · iexact HE
    iexact R1
  isplitl [HF]; · iexact HF
  iexact R2

theorem todo_intro (f : Bool) :
    iprop(legs (live (F := F) c) f ∗ toks (F := F) c f ∗ creds (F := F) c f ∗ barPay (F := F) c f) ⊢ todo (F := F) c f 0 := by
  unfold legs toks creds barPay todo hopA legA live
  rw [← Finset.range_eq_Ico, ← sep_eq, ← sep_eq, ← sep_eq]
  refine each _ fun h _ => ?_
  iintro ⟨⟨⟨⟨H1, R1⟩, ⟨H2, -⟩⟩, ⟨H3, R3⟩, ⟨H4, -⟩⟩, ⟨⟨T1, T2⟩, T3, T4⟩, ⟨C1, C2⟩, D1, D2⟩
  isplitr [D1 D2]
  · isplitl [H1 R1 H2 T1 T2 C1]
    · isplitl [H1]; · iexact H1
      isplitl [R1]; · iexact R1
      isplitl [H2]; · iexact H2
      isplitl [T1]; · iexact T1
      isplitl [T2]; · iexact T2
      iexact C1
    isplitl [H3]; · iexact H3
    isplitl [R3]; · iexact R3
    isplitl [H4]; · iexact H4
    isplitl [T3]; · iexact T3
    isplitl [T4]; · iexact T4
    iexact C2
  isplitl [D1]; · iexact D1
  iexact D2

theorem done_out (f : Bool) {n : ℕ} (hn : len f = n + 1) :
    iprop(done wq wo c f (n + 1) ∗ held wq wo f c (n + 1) fullShare)
      ⊢ iprop(legs (over (F := F) c) f ∗ held wq wo f c 0 (tot f 0) ∗ fulls wq wo c f) := by
  unfold done hopC legs fulls legC over
  rw [sep_eq, hn, range_last (fun h => held wq wo f c (h + 1) fullShare), range_first (fun h => held wq wo f c h (tot f h))]
  have e : (bigSep (Finset.range n) fun h => held wq wo f c (h + 1) (tot f (h + 1)))
      ⊢ bigSep (Finset.range n) fun h => held wq wo f c (h + 1) fullShare :=
    Entails.of_eq (bigSep_congr fun h _ => by rw [tot_succ])
  iintro ⟨⟨HL, HF, H0⟩, Hn⟩
  isplitl [HL]; · iexact HL
  isplitl [H0]; · iexact H0
  isplitl [Hn]; · iexact Hn
  iapply e $$ HF

theorem stacks_split : iprop(stack (F := F) true c ∗ stack (F := F) false c)
    ⊢ iprop((anyPart (F := F) true c c ∗ anyPart (F := F) false c c) ∗ empties (F := F) c true ∗ empties (F := F) c false) := by
  have e (q : Bool) : stack (F := F) q c ⊢ _ :=
    (stack_split (F := F) q c).trans (Entails.of_eq (places_eq c fun s => anyPart (F := F) q c s))
  unfold empties
  rw [sep_eq, sep_eq]
  iintro ⟨HQ, HO⟩
  ihave HQ := (e true) $$ HQ
  ihave HO := (e false) $$ HO
  icases HQ with ⟨Q0, Q1, Q2⟩
  icases HO with ⟨O0, O1, O2⟩
  isplitl [Q0 O0]
  · isplitl [Q0]; · iexact Q0
    iexact O0
  isplitl [Q1 O1]
  · isplitl [Q1]; · iexact Q1
    iexact O1
  isplitl [Q2]; · iexact Q2
  iexact O2

theorem stacks_join : iprop((held wq wo true c 0 (tot true 0) ∗ fulls wq wo c true)
      ∗ (held wq wo false c 0 (tot false 0) ∗ fulls wq wo c false))
    ⊢ iprop(stack (F := F) true c ∗ stack (F := F) false c) := by
  have e (q : Bool) : _ ⊢ stack (F := F) q c :=
    (Entails.of_eq (places_eq c fun s => part wq wo q c s fullShare).symm).trans (stack_join wq wo q c)
  unfold fulls held
  rw [sep_eq, sep_eq, pos_zero, pos_zero]
  iintro ⟨⟨⟨Q0, O0⟩, Q1, O1⟩, ⟨Q0', O0'⟩, Q2, O2⟩
  isplitl [Q0 Q0' Q1 Q2]
  · iapply (e true)
    isplitl [Q0 Q0']
    · iapply (part_split wq wo true c c fullShare).2
      isplitl [Q0]; · iexact Q0
      iexact Q0'
    isplitl [Q1]; · iexact Q1
    iexact Q2
  iapply (e false)
  isplitl [O0 O0']
  · iapply (part_split wq wo false c c fullShare).2
    isplitl [O0]; · iexact O0
    iexact O0'
  isplitl [O1]; · iexact O1
  iexact O2

/-! ## Opening and closing the cells -/

theorem open_cells (K : GSem nD τ sig → ℕ) :
    iprop(invAll wq wo K ∗ bigSep (Finset.univ : Finset (Fin 124)) fun k =>
        iprop(openTok ER (dc c (6 + k.val)) ∗ semVal (dc c (6 + k.val)) 0))
      ⊢ (|={Set.univ}=> iprop(legs (live (F := F) c) true ∗ legs (live (F := F) c) false) : sProp 𝕄) := by
  rw [← cells_legs]
  refine (bigSep_with_persistent (Ψ := fun k : Fin 124 => iprop(|={Set.univ}=> live (F := F) c (6 + k.val))) fun k _ => ?_).trans
    (bigSep_fupd _ _)
  have hk := k.isLt
  iintro ⟨#HI, Ho, Hv⟩
  iapply (Rounds.cell_open ER (sched wq wo) (g := dc c (6 + k.val)) (Set.mem_univ (K (dc c (6 + k.val)))))
  isplitr; · iapply (inv_dc wq wo K c (n := 6 + k.val) (by omega) (by omega)); iexact HI
  isplitl [Ho]; · iexact Ho
  iexact Hv

theorem close_cells (K : GSem nD τ sig → ℕ) :
    iprop(invAll wq wo K ∗ (legs (over (F := F) c) true ∗ legs (over (F := F) c) false))
      ⊢ (|={Set.univ}=> bigSep (Finset.univ : Finset (Fin 124)) (fun k => semVal (dc c (6 + k.val)) 0) : sProp 𝕄) := by
  rw [← cells_legs]
  refine (bigSep_with_persistent (Ψ := fun k : Fin 124 => iprop(|={Set.univ}=> semVal (dc c (6 + k.val)) 0)) fun k _ => ?_).trans
    (bigSep_fupd _ _)
  have hk := k.isLt
  unfold over
  iintro ⟨#HI, Ho⟩
  iapply (Rounds.cell_close ER (sched wq wo) (g := dc c (6 + k.val)) (Set.mem_univ (K (dc c (6 + k.val)))) id
    (duties_later wq wo _))
  isplitr; · iapply (inv_dc wq wo K c (n := 6 + k.val) (by omega) (by omega)); iexact HI
  iexact Ho

theorem close_bar (K : GSem nD τ sig → ℕ) :
    iprop(invAll wq wo K ∗ atPos ER (bc c) 1 ∅ 0) ⊢ (|={Set.univ}=> semVal (bc c) 0 : sProp 𝕄) := by
  iintro ⟨#HI, Ho⟩
  iapply (Rounds.cell_close ER (sched wq wo) (g := bc c) (Set.mem_univ (K (bc c))) id (duties_later wq wo _))
  isplitr; · iapply (inv_bc wq wo K c); iexact HI
  iexact Ho

/-! ## The body on one device -/

/-- The input window. -/
def xAt (x : Vec F S2x128x512 .bf16) : sProp 𝕄 := ((c : Thread nD τ).loc cc0_stg0_0) ↦{fullShare} x

theorem loadX_step (x : Vec F S2x128x512 .bf16) (k : Vec F S2x128x512 .bf16 → P F) (Q : PUnit → sProp 𝕄) :
    xAt c x ⊢ iprop((xAt c x -∗ run c (k x) Q) -∗ run c (.op (.load (Memref.whole cc0_stg0_0)
      (Rect.unit (s := S2x128x512) ![0, 0, 0] S2x128x512.size inb_S2x128x512_S2x128x512_0_0_0).toLoadRect
      (View.loadsAt_vmem h_S2x128x512)) k) Q) := by
  unfold xAt
  have h := wp_load_rect (defs := defs₀ (F := F)) 𝒱₀ (c : Thread nD τ) none (Γ := []) Set.univ (Q := Q)
    (m := Memref.whole cc0_stg0_0) (r := Rect.unit (s := S2x128x512) ![0, 0, 0] S2x128x512.size
      inb_S2x128x512_S2x128x512_0_0_0) (hl := View.loadsAt_vmem h_S2x128x512) (k := k)
    (S := Finset.univ) (q := fullShare) (f := x) (Finset.subset_univ _)
  have e : ((Memref.whole cc0_stg0_0).access (Rect.unit (s := S2x128x512) ![0, 0, 0] S2x128x512.size
      inb_S2x128x512_S2x128x512_0_0_0)).read (Elt F) x = x :=
    Memref.read_access_unit_zero (Elt F) cc0_stg0_0 zero3 inb_S2x128x512_S2x128x512_0_0_0 x
  rw [e] at h
  exact h

variable (x : Vec F S2x128x512 .bf16) (X V : Vec F S2x128x128x64 .bf16)

/-- What a device knows and holds of the protocol when it starts. -/
def opened (K : GSem nD τ sig → ℕ) : sProp 𝕄 :=
  iprop(invAll wq wo K ∗ atPos ER (bc c) 0 ∅ 0 ∗ (reached ER (bc (left c)) 0 ∗ reached ER (bc (right c)) 0)
    ∗ (dutyTok ER (bc (left c)) 0 true ∗ dutyTok ER (bc (right c)) 0 false)
    ∗ (legs (live (F := F) c) true ∗ legs (live (F := F) c) false) ∗ (toks (F := F) c true ∗ toks (F := F) c false))
/-- The credits a device starts with. -/
def credit : sProp 𝕄 :=
  iprop(cred (tallyAt (bc c) () 2) ∗ creds (F := F) c true ∗ creds (F := F) c false)
/-- A device's windows. -/
def wins (g : Vec F S2x128x512 .f32) : sProp 𝕄 :=
  iprop(xAt c x ∗ wqAt c (wq c) ∗ woAt c (wo c) ∗ kAt c X ∗ vAt c V ∗ accAt c g)
/-- The result's window at the end. -/
def outV : Vec F S2x128x512 .f32 := accEnd wq wo c (k0_pay1 x) X V

/-- What a device has at the end. -/
def post : sProp 𝕄 :=
  iprop(wins wq wo c x X V (outV wq wo c x X V) ∗ (stack (F := F) true c ∗ stack (F := F) false c)
    ∗ (bigSep (Finset.univ : Finset (Fin 124)) fun k => semVal (dc c (6 + k.val)) 0) ∗ semVal (bc c) 0
    ∗ ∃ W, owes (c : Thread nD τ) (0 : CellTallies nD τ sig Unit) W)

theorem fin_out (K : GSem nD τ sig → ℕ) :
    iprop(invAll wq wo K ∗ (xAt c x ∗ wqAt c (wq c) ∗ woAt c (wo c)) ∗ atPos ER (bc c) 1 ∅ 0 ∗ fin wq wo c (k0_pay1 x) X V)
      ⊢ (|={Set.univ}=> post wq wo c x X V : sProp 𝕄) := by
  unfold fin desk
  iintro ⟨#HI, ⟨Hx, Hq, Ho⟩, Hat, ⟨HdF, HdB⟩, ⟨HF, HB⟩, HO, HK, HV, Ha⟩
  ihave HF := (done_out wq wo c true (n := 15) rfl) $$ [HdF HF]
  · isplitl [HdF]; · iexact HdF
    iexact HF
  ihave HB := (done_out wq wo c false (n := 14) rfl) $$ [HdB HB]
  · isplitl [HdB]; · iexact HdB
    iexact HB
  icases HF with ⟨HLF, HF⟩
  icases HB with ⟨HLB, HB⟩
  imod (close_cells wq wo c K) $$ [HLF HLB] with Hs
  · isplitr; · iexact HI
    isplitl [HLF]; · iexact HLF
    iexact HLB
  imod (close_bar wq wo c K) $$ [Hat] with Hb
  · isplitr; · iexact HI
    iexact Hat
  imodintro
  unfold post wins outV
  isplitl [Hx Hq Ho HK HV Ha]
  · isplitl [Hx]; · iexact Hx
    isplitl [Hq]; · iexact Hq
    isplitl [Ho]; · iexact Ho
    isplitl [HK]; · iexact HK
    isplitl [HV]; · iexact HV
    iexact Ha
  isplitl [HF HB]
  · iapply (stacks_join wq wo c)
    isplitl [HF]; · iexact HF
    iexact HB
  isplitl [Hs]; · iexact Hs
  isplitl [Hb]; · iexact Hb
  iexact HO

theorem body_run (K : GSem nD τ sig → ℕ) (g : Vec F S2x128x512 .f32) (W : Waits sig Unit) (Q : PUnit → sProp 𝕄) :
    iprop((opened wq wo c K ∗ credit (F := F) c ∗ levAts L lv) ∗ wins wq wo c x X V g
        ∗ (stack (F := F) true c ∗ stack (F := F) false c) ∗ owes (c : Thread nD τ) (owed₀ c) W
        ∗ (post wq wo c x X V -∗ Q ⟨⟩))
      ⊢ run c (body (Memref.whole cc0_stg0_0) (Memref.whole cc0_stg1_0) (Memref.whole cc0_stg2_0)
          (Memref.whole cc0_stg3_0) (Memref.whole cc0_stg4_0) (Memref.whole cc0_stg5_0)) Q := by
  unfold body opened credit wins
  simp only [wp_deviceId]
  iintro ⟨⟨⟨#HI, Hat, ⟨#Rl, #Rr⟩, ⟨Tl, Tr⟩, ⟨LT, LF⟩, TT, TF⟩, ⟨Hc, CT, CF⟩, #HL⟩, ⟨Hx, Hq, Ho, HK, HV, Ha⟩, Hst, HO, Hk⟩
  iapply (loadX_step c x _ Q) $$ [Hx]
  · iexact Hx
  iintro Hx
  ihave Hst := (stacks_split (F := F) c) $$ Hst
  icases Hst with ⟨⟨S1, S2⟩, ET, EF⟩
  iapply (fill_step wq wo c g _ Q) $$ [Hq Ho S1 S2 Ha]
  · isplitl [Hq]; · iexact Hq
    isplitl [Ho]; · iexact Ho
    isplitl [S1]; · iexact S1
    isplitl [S2]; · iexact S2
    iexact Ha
  iintro ⟨Hq, Ho, S1, S2, Ha⟩
  ihave HT := (pay_intro (F := F) c true) $$ [LT ET]
  · isplitl [LT]; · iexact LT
    iexact ET
  ihave HF := (pay_intro (F := F) c false) $$ [LF EF]
  · isplitl [LF]; · iexact LF
    iexact EF
  icases HT with ⟨LT, PT⟩
  icases HF with ⟨LF, PF⟩
  iapply (meet_step wq wo K c W _ Q) $$ [Tl Tr PT PF Hc HO Hat]
  · isplitr; · iexact HI
    isplitr; · iexact HL
    isplitl [Tl PT]
    · isplitl [Tl]; · iexact Tl
      isplitr; · iexact Rl
      iexact PT
    isplitl [Tr PF]
    · isplitl [Tr]; · iexact Tr
      isplitr; · iexact Rr
      iexact PF
    isplitl [Hc]; · iexact Hc
    isplitl [HO]; · iexact HO
    iexact Hat
  iintro ⟨HO, Hat, PT, PF⟩
  ihave DT := (todo_intro (F := F) c true) $$ [LT TT CT PT]
  · isplitl [LT]; · iexact LT
    isplitl [TT]; · iexact TT
    isplitl [CT]; · iexact CT
    iexact PT
  ihave DF := (todo_intro (F := F) c false) $$ [LF TF CF PF]
  · isplitl [LF]; · iexact LF
    isplitl [TF]; · iexact TF
    isplitl [CF]; · iexact CF
    iexact PF
  iapply (ring_run wq wo c (k0_pay1 x) X V K Q) $$ [DT DF S1 S2 HO HK HV Ha]
  · isplitr; · iexact HI
    isplitr; · iexact HL
    unfold met desk
    isplitl [DT DF]
    · isplitl [DT]; · iexact DT
      iexact DF
    isplitl [S1 S2]
    · isplitl [S1]; · iexact S1
      iexact S2
    isplitl [HO]; · iexact HO
    isplitl [HK]; · iexact HK
    isplitl [HV]; · iexact HV
    iexact Ha
  iintro Hfin
  unfold run
  rw [wp_ret]
  imod (fin_out wq wo c x X V K) $$ [Hx Hq Ho Hat Hfin] with Hp
  · isplitr; · iexact HI
    isplitl [Hx Hq Ho]
    · isplitl [Hx]; · iexact Hx
      isplitl [Hq]; · iexact Hq
      iexact Ho
    isplitl [Hat]; · iexact Hat
    iexact Hfin
  imodintro
  iapply Hk
  iexact Hp
end

end Cert.KernelIdeal.Ring

end
-- ==== Proof.Tokens.lean ====
/- What the launch deals: the duties' tokens, each to the device that pays it, and the credits. -/
module

public import proofs.«01_k».proof.Proof.Whole

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (wq : Dev nD → Vec F S512x256 .bf16) (wo : Dev nD → Vec F S256x512 .bf16)

/-! ## A direction's cells, those that send and those that receive -/

section
variable {M : Type} [URA M] (Φ : ℕ → sProp M) (f : Bool)

def sends : sProp M := bigSep (Finset.range (len f)) fun h => iprop(Φ (snd f true h) ∗ Φ (snd f false h))
def gets : sProp M := bigSep (Finset.range (len f)) fun h => iprop(Φ (rcv f true h) ∗ Φ (rcv f false h))

theorem four (A B C D : sProp M) : iprop((A ∗ B) ∗ (C ∗ D)) = iprop((A ∗ C) ∗ (B ∗ D)) := by
  apply of_both
  constructor
  · iintro ⟨⟨HA, HB⟩, HC, HD⟩
    isplitl [HA HC]
    · isplitl [HA]; · iexact HA
      iexact HC
    isplitl [HB]; · iexact HB
    iexact HD
  · iintro ⟨⟨HA, HC⟩, HB, HD⟩
    isplitl [HA HB]
    · isplitl [HA]; · iexact HA
      iexact HB
    isplitl [HC]; · iexact HC
    iexact HD

theorem legs_eq : legs Φ f = iprop(sends Φ f ∗ gets Φ f) := by
  unfold legs sends gets
  rw [← sep_eq]
  exact bigSep_congr fun h _ => four _ _ _ _
end

/-! ## The duties' tokens -/

/-- The barrier cells' duties. -/
def tokB : Dev nD × Bool ↪ GSem nD τ sig × ℕ × Bool := ⟨fun p => (bc p.1, 0, p.2), fun p p' h =>
  Prod.ext (congrArg (fun t : GSem nD τ sig × ℕ × Bool => t.1.1.1) h)
    (congrArg (fun t : GSem nD τ sig × ℕ × Bool => t.2.2) h)⟩
/-- The DMA cells' duties. -/
def tokD : Dev nD × Fin 124 ↪ GSem nD τ sig × ℕ × Bool := ⟨fun p => (dmaEmb p, 0, true), fun p p' h =>
  dmaEmb.injective (congrArg (fun t : GSem nD τ sig × ℕ × Bool => t.1) h)⟩

/-- Every duty, kept from being counted out one by one. -/
def duties : Finset (GSem nD τ sig × ℕ × Bool) :=
  (Classical.choice ⟨⟨Finset.univ.map tokB ∪ Finset.univ.map tokD, rfl⟩⟩ :
    {S : Finset (GSem nD τ sig × ℕ × Bool) // S = Finset.univ.map tokB ∪ Finset.univ.map tokD}).1
theorem duties_eq : duties = Finset.univ.map tokB ∪ Finset.univ.map tokD :=
  (Classical.choice ⟨⟨Finset.univ.map tokB ∪ Finset.univ.map tokD, rfl⟩⟩ :
    {S : Finset (GSem nD τ sig × ℕ × Bool) // S = Finset.univ.map tokB ∪ Finset.univ.map tokD}).2

theorem tok_disj : Disjoint (Finset.univ.map tokB) (Finset.univ.map tokD) := by
  rw [Finset.disjoint_left]
  intro t h h'
  obtain ⟨p, -, rfl⟩ := Finset.mem_map.mp h
  obtain ⟨p', -, e⟩ := Finset.mem_map.mp h'
  have e1 : (SemLoc.dma (num (6 + p'.2.val)) : SemLoc sig) = .reg bar :=
    congrArg (fun t : GSem nD τ sig × ℕ × Bool => t.1.2) e
  cases e1

theorem cells_disj : Disjoint barCells dmaCells := by
  unfold barCells dmaCells
  rw [Finset.disjoint_left]
  intro t h h'
  obtain ⟨p, -, rfl⟩ := Finset.mem_map.mp h
  obtain ⟨p', -, e⟩ := Finset.mem_map.mp h'
  have e1 : (SemLoc.dma (num (6 + p'.2.val)) : SemLoc sig) = .reg bar :=
    congrArg (fun g : GSem nD τ sig => g.2) e
  cases e1

/-- A device's DMA duty. -/
def tok (c : Dev nD) (n : ℕ) : sProp 𝕄 := dutyTok ER (dc c n) 0 true

theorem duties_split : bigSep duties (fun x => (dutyTok ER x.1 x.2.1 x.2.2 : sProp 𝕄))
    = iprop((bigSep Finset.univ fun c : Dev nD => iprop(dutyTok ER (bc c) 0 true ∗ dutyTok ER (bc c) 0 false))
      ∗ bigSep Finset.univ fun c : Dev nD => iprop(legs (tok (F := F) c) true ∗ legs (tok (F := F) c) false)) := by
  rw [duties_eq, bigSep_union tok_disj, bigSep_map, bigSep_map, bigSep_univ_prod, bigSep_univ_prod]
  refine congr (congrArg BIBase.sep (bigSep_congr fun c _ => ?_)) (bigSep_congr fun c _ => ?_)
  · rw [show (Finset.univ : Finset Bool) = {true, false} from rfl, bigSep_insert (by decide), bigSep_singleton]
    rfl
  · exact (cells_legs (tok (F := F) c))

theorem toks_eq (c : Dev nD) (f : Bool) :
    toks (F := F) c f = iprop(sends (tok (F := F) c) f ∗ gets (tok (F := F) (nb f c)) f) := by
  unfold toks sends gets tok
  rw [← sep_eq]
  exact bigSep_congr fun h _ => four _ _ _ _

/-- The tokens a device pays with, every arrival's having gone to the device that sends. -/
def pays (c : Dev nD) : sProp 𝕄 :=
  iprop((dutyTok ER (bc (left c)) 0 true ∗ dutyTok ER (bc (right c)) 0 false) ∗ (toks (F := F) c true ∗ toks (F := F) c false))

theorem toks_turn (f : Bool) : (bigSep Finset.univ fun c : Dev nD => legs (tok (F := F) c) f)
    = bigSep Finset.univ fun c : Dev nD => toks (F := F) c f := by
  rw [bigSep_congr fun c _ => legs_eq (tok (F := F) c) f, bigSep_congr fun c _ => toks_eq c f, bigSep_sep', bigSep_sep',
    bigSep_univ_equiv (turn f) (fun c : Dev nD => gets (tok (F := F) c) f)]
  rfl

theorem duties_deal : bigSep duties (fun x => (dutyTok ER x.1 x.2.1 x.2.2 : sProp 𝕄))
    = bigSep Finset.univ fun c : Dev nD => pays (F := F) c := by
  unfold pays
  rw [duties_split, bigSep_sep', bigSep_sep', bigSep_sep', bigSep_sep', bigSep_sep', toks_turn, toks_turn,
    bigSep_univ_equiv (turn false) (fun c : Dev nD => (dutyTok ER (bc c) 0 true : sProp 𝕄)),
    bigSep_univ_equiv (turn true) (fun c : Dev nD => (dutyTok ER (bc c) 0 false : sProp 𝕄))]
  rfl

/-! ## The credits -/

theorem dc_inj {c d : Dev nD} {n k : ℕ} (h : dc c n = dc d k) : c = d ∧ num n = num k :=
  ⟨congrArg (fun g : GSem nD τ sig => g.1.1) h, SemLoc.dma.inj (congrArg (fun g : GSem nD τ sig => g.2) h)⟩

theorem owL_at {f q f' q' : Bool} {h : ℕ} (hh : h < len f) (c d : Dev nD) :
    owL f' q' d 0 (dc c (rcv f q h)) () = if d = nb (!f) c then (if f' = f ∧ q' = q then N q else 0) else 0 := by
  have at' (h' : ℕ) : tallyAt (dc (nb f' d) (rcv f' q' h')) () (N q') (dc c (rcv f q h)) ()
      = if dc c (rcv f q h) = dc (nb f' d) (rcv f' q' h') then N q' else 0 := by
    rw [tallyAt_apply]
    by_cases e : dc c (rcv f q h) = dc (nb f' d) (rcv f' q' h')
    · rw [if_pos ⟨e, rfl⟩, if_pos e]
    · rw [if_neg fun x => e x.1, if_neg e]
  unfold owL
  rw [Finset.sum_apply, Finsupp.finset_sum_apply, Finset.sum_congr rfl fun h' _ => at' h']
  have same {h' : ℕ} (hh' : h' < len f') (e : dc c (rcv f q h) = dc (nb f' d) (rcv f' q' h')) :
      d = nb (!f) c ∧ (f' = f ∧ q' = q) ∧ h' = h := by
    obtain ⟨e1, e2⟩ := dc_inj e
    have e3 := (role_rcv (q := q) hh).symm.trans ((congrArg (fun s : DmaSem sig => role s.val) e2).trans (role_rcv hh'))
    simp only [Option.some.injEq, Prod.mk.injEq, true_and] at e3
    obtain ⟨rfl, rfl, rfl⟩ := e3
    refine ⟨?_, ⟨rfl, rfl⟩, rfl⟩
    rw [e1]; cases f
    · exact (right_left d).symm
    · exact (left_right d).symm
  by_cases hd : d = nb (!f) c
  · rw [if_pos hd]
    by_cases hf : f' = f ∧ q' = q
    · obtain ⟨rfl, rfl⟩ := hf
      rw [if_pos ⟨rfl, rfl⟩, Finset.sum_eq_single h]
      · rw [if_pos]; rw [hd, nb_not]
      · intro h' hm hne
        exact if_neg fun e => hne (same (Finset.mem_Ico.mp hm).2 e).2.2
      · intro hm; exact absurd (Finset.mem_Ico.mpr ⟨Nat.zero_le _, hh⟩) hm
    · rw [if_neg hf]
      exact Finset.sum_eq_zero fun h' hm => if_neg fun e => hf (same (Finset.mem_Ico.mp hm).2 e).2.1
  · rw [if_neg hd]
    exact Finset.sum_eq_zero fun h' hm => if_neg fun e => hd (same (Finset.mem_Ico.mp hm).2 e).1

theorem owed_rcv {f q : Bool} {h : ℕ} (hh : h < len f) (c d : Dev nD) :
    owed₀ d (dc c (rcv f q h)) () = if d = nb (!f) c then N q else 0 := by
  have e : owed₀ d (dc c (rcv f q h)) () = (((owL true true d 0 (dc c (rcv f q h)) () + owL true false d 0 (dc c (rcv f q h)) ())
      + (owL false true d 0 (dc c (rcv f q h)) () + owL false false d 0 (dc c (rcv f q h)) ()))
      + tallyAt (bc (right d)) () 1 (dc c (rcv f q h)) ()) + tallyAt (bc (left d)) () 1 (dc c (rcv f q h)) () := rfl
  have hb (x : Dev nD) : tallyAt (bc x) () 1 (dc c (rcv f q h)) () = 0 := by
    rw [tallyAt_apply]
    exact if_neg fun e => by have := congrArg (fun g : GSem nD τ sig => g.2) e.1; cases this
  rw [e, hb, hb, owL_at hh, owL_at hh, owL_at hh, owL_at hh]
  by_cases hd : d = nb (!f) c
  · simp only [if_pos hd]
    cases f <;> cases q <;> simp
  · simp only [if_neg hd]

theorem launch_rcv {f q : Bool} {h : ℕ} (hh : h < len f) (c : Dev nD) :
    tallyOn (dc c (rcv f q h)) (launchCredit (Pipeline.owing owed₀) 0 (dc c (rcv f q h)))
      = (tallyAt (dc c (rcv f q h)) () (N q) : CellTallies nD τ sig Unit) := by
  unfold tallyAt; refine congrArg _ (Finsupp.ext fun u => ?_); cases u
  rw [Pipeline.launchCredit_owing, Finsupp.single_eq_same, Finset.sum_congr rfl fun d _ => owed_rcv hh c d,
    Finset.sum_ite_eq' Finset.univ (nb (!f) c) fun _ => N q, if_pos (Finset.mem_univ _)]

theorem owed_bar (c d : Dev nD) : owed₀ d (bc c) () = (if d = left c then 1 else 0) + (if d = right c then 1 else 0) := by
  have e : owed₀ d (bc c) () = (((owL true true d 0 (bc c) () + owL true false d 0 (bc c) ())
      + (owL false true d 0 (bc c) () + owL false false d 0 (bc c) ()))
      + tallyAt (bc (right d)) () 1 (bc c) ()) + tallyAt (bc (left d)) () 1 (bc c) () := rfl
  have hz (f q : Bool) : owL f q d 0 (bc c) () = 0 := by
    unfold owL
    rw [Finset.sum_apply, Finsupp.finset_sum_apply]
    refine Finset.sum_eq_zero fun h _ => ?_
    rw [tallyAt_apply]
    exact if_neg fun e => by have := congrArg (fun g : GSem nD τ sig => g.2) e.1; cases this
  have hr : tallyAt (bc (right d)) () 1 (bc c) () = if d = left c then 1 else 0 := by
    rw [tallyAt_apply]
    by_cases h : d = left c
    · rw [if_pos h, h, right_left]; exact if_pos ⟨rfl, rfl⟩
    · rw [if_neg h]
      refine if_neg fun e => h ?_
      have : c = right d := congrArg (fun g : GSem nD τ sig => g.1.1) e.1
      rw [this, left_right]
  have hl : tallyAt (bc (left d)) () 1 (bc c) () = if d = right c then 1 else 0 := by
    rw [tallyAt_apply]
    by_cases h : d = right c
    · rw [if_pos h, h, left_right]; exact if_pos ⟨rfl, rfl⟩
    · rw [if_neg h]
      refine if_neg fun e => h ?_
      have : c = left d := congrArg (fun g : GSem nD τ sig => g.1.1) e.1
      rw [this, right_left]
  rw [e, hz, hz, hz, hz, hr, hl]; omega

theorem launch_bar (c : Dev nD) : tallyOn (bc c) (launchCredit (Pipeline.owing owed₀) 0 (bc c))
    = (tallyAt (bc c) () 2 : CellTallies nD τ sig Unit) := by
  unfold tallyAt; refine congrArg _ (Finsupp.ext fun u => ?_); cases u
  rw [Pipeline.launchCredit_owing, Finsupp.single_eq_same, Finset.sum_congr rfl fun d _ => owed_bar c d,
    Finset.sum_add_distrib, Finset.sum_ite_eq' Finset.univ (left c) fun _ => 1, Finset.sum_ite_eq' Finset.univ (right c) fun _ => 1,
    if_pos (Finset.mem_univ _), if_pos (Finset.mem_univ _)]

/-- A device's DMA cells by number. -/
def semEmb : Fin 124 ↪ SemLoc sig := ⟨fun k => .dma (num (6 + k.val)), fun k k' h => by
  have := num_inj (by omega) (by omega) (SemLoc.dma.inj h); exact Fin.ext (by omega)⟩

theorem credit_intro (c : Dev nD) : (Pipeline.launchCred owed₀ c : sProp 𝕄) ⊢ credit (F := F) c := by
  have hsub : (Finset.univ.map semEmb) ⊆ (Finset.univ : Finset (SemLoc sig)).erase (.reg bar) := fun s hs => by
    obtain ⟨k, -, rfl⟩ := Finset.mem_map.mp hs
    exact Finset.mem_erase.mpr ⟨(fun h => nomatch h), Finset.mem_univ _⟩
  have hall := cells_legs (fun n => (cred (tallyOn (dc c n) (launchCredit (Pipeline.owing owed₀) 0 (dc c n))) : sProp 𝕄))
  have hget (f : Bool) : gets (fun n => (cred (tallyOn (dc c n) (launchCredit (Pipeline.owing owed₀) 0 (dc c n))) : sProp 𝕄)) f
      = creds (F := F) c f := by
    unfold gets creds
    exact bigSep_congr fun h hm => by dsimp only; rw [launch_rcv (Finset.mem_range.mp hm), launch_rcv (Finset.mem_range.mp hm)]
  have h1 : (Pipeline.launchCred owed₀ c : sProp 𝕄) ⊢ iprop(cred (tallyAt (bc c) () 2)
      ∗ bigSep (Finset.univ : Finset (Fin 124)) fun k =>
        cred (tallyOn (dc c (6 + k.val)) (launchCredit (Pipeline.owing owed₀) 0 (dc c (6 + k.val))))) := by
    unfold Pipeline.launchCred
    rw [bigSep_univ_at _ (SemLoc.reg bar), launch_bar]
    refine sep_mono_right ?_
    refine (BI.bigSep_subset hsub).trans ?_
    rw [bigSep_map]
    exact BI.Entails.refl _
  refine h1.trans ?_
  unfold credit
  rw [hall, legs_eq, legs_eq, hget, hget]
  iintro ⟨Hb, ⟨-, HT⟩, -, HF⟩
  isplitl [Hb]; · iexact Hb
  isplitl [HT]; · iexact HT
  iexact HF

end Cert.KernelIdeal.Ring

end
-- ==== Proof.Region.lean ====
/- The kernel's region on one device: its windows' contents and the body's obligation. -/
module

public import Idealize.ShloMosaic.Lib.Pipeline.Value
public import proofs.«01_k».proof.Proof.Tokens

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

open Idealize.ShloMosaic.Pipeline (Dat Cfg BodyObligation)

variable (m : (ℓ : Loc nD τ sig) → Buf (Elt F) ℓ)

/-! ## The windows' contents -/

/-- A device's block of the input. -/
def wx (c : Dev nD) : Vec F S2x128x512 .bf16 := V m c main_arg0
/-- A device's query weights. -/
def wq (c : Dev nD) : Vec F S512x256 .bf16 := V m c main_arg1
/-- A device's output weights. -/
def wo (c : Dev nD) : Vec F S256x512 .bf16 := V m c main_arg4
/-- The keys, the heads before the positions. -/
def wk (c : Dev nD) : Vec F S2x128x128x64 .bf16 := V m c main_v1
/-- The values, the heads before the positions. -/
def wv (c : Dev nD) : Vec F S2x128x128x64 .bf16 := V m c main_v2
/-- A device's result. -/
def res (c : Dev nD) : Vec F S2x128x512 .f32 := outV (wq m) (wo m) c (wx m c) (wk m c) (wv m c)

theorem iblk_0 (c : Dev nD) : iblk m c 0 t0_0 = wx m c := funext fun j => congrArg (wx m c) (funext fun a => Fin.ext (by
  show 0 * _ + 1 * (j a).val = (j a).val; omega))
theorem iblk_1 (c : Dev nD) : iblk m c 1 t0_0 = wq m c := funext fun j => congrArg (wq m c) (funext fun a => Fin.ext (by
  show 0 * _ + 1 * (j a).val = (j a).val; omega))
theorem iblk_2 (c : Dev nD) : iblk m c 2 t0_0 = wo m c := funext fun j => congrArg (wo m c) (funext fun a => Fin.ext (by
  show 0 * _ + 1 * (j a).val = (j a).val; omega))
theorem iblk_3 (c : Dev nD) : iblk m c 3 t0_0 = wk m c := funext fun j => congrArg (wk m c) (funext fun a => Fin.ext (by
  show 0 * _ + 1 * (j a).val = (j a).val; omega))
theorem iblk_4 (c : Dev nD) : iblk m c 4 t0_0 = wv m c := funext fun j => congrArg (wv m c) (funext fun a => Fin.ext (by
  show 0 * _ + 1 * (j a).val = (j a).val; omega))

/-! ## The region's proof data -/

/-- The kernel's own semaphores. -/
abbrev osem : Fin 124 → SemLoc sig := fun k => .dma (num (6 + k.val))

/-- What a device has of the protocol once its cells are open. -/
def Xk (c : Dev nD) : sProp 𝕄 :=
  iprop((∃ K, opened (wq m) (wo m) c K) ∗ credit (F := F) c ∗ levAts L lv)

/-- Before the body. -/
def phi0 (c : Dev nD) : sProp 𝕄 :=
  iprop(Xk m c ∗ (stack (F := F) true c ∗ stack (F := F) false c) ∗ ∃ r, prngReg c r)
/-- After it. -/
def phi1 (c : Dev nD) : sProp 𝕄 :=
  iprop(((bigSep (Finset.univ : Finset (Fin 124)) fun k => semVal (dc c (6 + k.val)) 0) ∗ semVal (bc c) 0)
    ∗ (stack (F := F) true c ∗ stack (F := F) false c) ∗ ∃ r, prngReg c r)

/-- The region's data on a device. -/
def dat (c : Dev nD) : Dat τ (Elt F) Unit ℕ UU ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | ⟨5, _⟩ => res m c
  Φ t := if t.val = 0 then phi0 m c else phi1 (F := F) c
  q _ := fullShare
  owed t := if t.val = 0 then owed₀ c else 0

theorem phi_first (c : Dev nD) : (dat m c).Φ t0_0.castSucc = phi0 m c := by
  show (if (t0_0.castSucc).val = 0 then phi0 m c else phi1 (F := F) c) = _
  exact if_pos (show (t0_0.castSucc).val = 0 from rfl)
theorem phi_last (c : Dev nD) : (dat m c).Φ t0_0.succ = phi1 (F := F) c := by
  show (if (t0_0.succ).val = 0 then phi0 m c else phi1 (F := F) c) = _
  exact if_neg (Nat.succ_ne_zero _)
theorem owed_first (c : Dev nD) : (dat m c).owed t0_0.castSucc = owed₀ c := by
  show (if (t0_0.castSucc).val = 0 then owed₀ c else 0) = _
  exact if_pos (show (t0_0.castSucc).val = 0 from rfl)
theorem owed_last (c : Dev nD) : (dat m c).owed t0_0.succ = 0 := by
  show (if (t0_0.succ).val = 0 then owed₀ c else 0) = _
  exact if_neg (Nat.succ_ne_zero _)

theorem before_0 (c : Dev nD) (d) : (dat m c).before 0 t0_0 d = wx m c :=
  (((dat m c).before_in_eq_fetched 0 rfl (fun _ => rfl) (fun _ _ _ => rfl) (fun t => rfl) t0_0 d).trans rfl).trans (iblk_0 m c)
theorem before_1 (c : Dev nD) (d) : (dat m c).before 1 t0_0 d = wq m c :=
  (((dat m c).before_in_eq_fetched 1 rfl (fun _ => rfl) (fun _ _ _ => rfl) (fun t => rfl) t0_0 d).trans rfl).trans (iblk_1 m c)
theorem before_2 (c : Dev nD) (d) : (dat m c).before 2 t0_0 d = wo m c :=
  (((dat m c).before_in_eq_fetched 2 rfl (fun _ => rfl) (fun _ _ _ => rfl) (fun t => rfl) t0_0 d).trans rfl).trans (iblk_2 m c)
theorem before_3 (c : Dev nD) (d) : (dat m c).before 3 t0_0 d = wk m c :=
  (((dat m c).before_in_eq_fetched 3 rfl (fun _ => rfl) (fun _ _ _ => rfl) (fun t => rfl) t0_0 d).trans rfl).trans (iblk_3 m c)
theorem before_4 (c : Dev nD) (d) : (dat m c).before 4 t0_0 d = wv m c :=
  (((dat m c).before_in_eq_fetched 4 rfl (fun _ => rfl) (fun _ _ _ => rfl) (fun t => rfl) t0_0 d).trans rfl).trans (iblk_4 m c)

/-- The result's array ends holding the result. -/
theorem arr_out (c : Dev nD) : (dat m c).arrAt 5 cfg0.N = res m c :=
  (dat m c).arrAt_eq_of_cover 5 (res m c)
    (fun t _ => by
      obtain rfl := fin_N0 t
      exact funext fun j => congrArg (res m c) (funext fun a => Fin.ext (by
        show (j a).val = 0 * _ + 1 * (j a).val; omega)))
    (fun i => ⟨t0_0, flush0_5 t0_0, by
      refine Finset.mem_map.mpr ⟨(fun a => ⟨(i a).val, (i a).isLt⟩), Finset.mem_univ _, ?_⟩
      refine funext fun a => Fin.ext ?_
      show 0 * _ + 1 * (i a).val = (i a).val; omega⟩)

/-! ## The body's obligation -/

theorem owes_in (c : Dev nD) : ((dat m c).owesAt () t0_0.castSucc : sProp 𝕄)
    ⊢ iprop(∃ W, owes (c : Thread nD τ) (owed₀ c) W) := by
  unfold Dat.owesAt Pipeline.owesWithin; rw [owed_first]
  iintro ⟨%W, -, HO⟩; iexists W; iexact HO
theorem owes_out (c : Dev nD) (W : Waits sig Unit) : (owes (c : Thread nD τ) (0 : CellTallies nD τ sig Unit) W : sProp 𝕄)
    ⊢ ((dat m c).owesAt () t0_0.succ : sProp 𝕄) := by
  unfold Dat.owesAt Pipeline.owesWithin Dat.bound; rw [owed_last]
  iintro HO; iexists W; isplitr; · ipureintro; exact fun _ _ => Or.inl trivial
  iexact HO

theorem prog_eq : (defs₀ (F := F) .tc cfg0.body (cfg0.bodyArgs t0_0 (cfg0.slots t0_0)))
    = body (Memref.whole cc0_stg0_0) (Memref.whole cc0_stg1_0) (Memref.whole cc0_stg2_0)
          (Memref.whole cc0_stg3_0) (Memref.whole cc0_stg4_0) (Memref.whole cc0_stg5_0) :=
  body_eq (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)

theorem own_0 (c : Dev nD) (X : Vec F S2x128x512 .bf16) :
    (owns c ((cfg0.win 0).stage (cfg0.slots t0_0 0)) fullShare X : sProp 𝕄) = xAt c X := by
  show owns (c : Thread nD τ) (Memref.whole cc0_stg0_0) fullShare X = _
  exact owns_whole (c : Thread nD τ) cc0_stg0_0 fullShare X
theorem own_1 (c : Dev nD) (X : Vec F S512x256 .bf16) :
    (owns c ((cfg0.win 1).stage (cfg0.slots t0_0 1)) fullShare X : sProp 𝕄) = wqAt c X := by
  show owns (c : Thread nD τ) (Memref.whole cc0_stg1_0) fullShare X = _
  exact owns_whole (c : Thread nD τ) cc0_stg1_0 fullShare X
theorem own_2 (c : Dev nD) (X : Vec F S256x512 .bf16) :
    (owns c ((cfg0.win 2).stage (cfg0.slots t0_0 2)) fullShare X : sProp 𝕄) = woAt c X := by
  show owns (c : Thread nD τ) (Memref.whole cc0_stg2_0) fullShare X = _
  exact owns_whole (c : Thread nD τ) cc0_stg2_0 fullShare X
theorem own_3 (c : Dev nD) (X : Vec F S2x128x128x64 .bf16) :
    (owns c ((cfg0.win 3).stage (cfg0.slots t0_0 3)) fullShare X : sProp 𝕄) = kAt c X := by
  show owns (c : Thread nD τ) (Memref.whole cc0_stg3_0) fullShare X = _
  exact owns_whole (c : Thread nD τ) cc0_stg3_0 fullShare X
theorem own_4 (c : Dev nD) (X : Vec F S2x128x128x64 .bf16) :
    (owns c ((cfg0.win 4).stage (cfg0.slots t0_0 4)) fullShare X : sProp 𝕄) = vAt c X := by
  show owns (c : Thread nD τ) (Memref.whole cc0_stg4_0) fullShare X = _
  exact owns_whole (c : Thread nD τ) cc0_stg4_0 fullShare X
theorem own_5 (c : Dev nD) (X : Vec F S2x128x512 .f32) :
    (owns c ((cfg0.win 5).stage (cfg0.slots t0_0 5)) fullShare X : sProp 𝕄) = accAt c X := by
  show owns (c : Thread nD τ) (Memref.whole cc0_stg5_0) fullShare X = _
  exact owns_whole (c : Thread nD τ) cc0_stg5_0 fullShare X

theorem body_ob (c : Dev nD) : BodyObligation (dat m c) (defs₀ (F := F)) 𝒱₀ () Set.univ := fun t => by
  obtain rfl := fin_N0 t
  have hin : (bigSep Finset.univ fun w : Fin cfg0.W =>
        iprop(∃ d, owns c ((cfg0.win w).stage (cfg0.slots t0_0 w)) fullShare ((dat m c).before w t0_0 d)) : sProp 𝕄)
      ⊢ iprop(∃ g, wins (wq m) (wo m) c (wx m c) (wk m c) (wv m c) g) := by
    rw [bigSep_W0]
    unfold wins
    iintro ⟨⟨%d0, H0⟩, ⟨%d1, H1⟩, ⟨%d2, H2⟩, ⟨%d3, H3⟩, ⟨%d4, H4⟩, ⟨%d5, H5⟩⟩
    iexists ((dat m c).before 5 t0_0 d5)
    isplitl [H0]; · iapply (Entails.of_eq ((congrArg _ (before_0 m c d0)).trans (own_0 c _))) $$ H0
    isplitl [H1]; · iapply (Entails.of_eq ((congrArg _ (before_1 m c d1)).trans (own_1 c _))) $$ H1
    isplitl [H2]; · iapply (Entails.of_eq ((congrArg _ (before_2 m c d2)).trans (own_2 c _))) $$ H2
    isplitl [H3]; · iapply (Entails.of_eq ((congrArg _ (before_3 m c d3)).trans (own_3 c _))) $$ H3
    isplitl [H4]; · iapply (Entails.of_eq ((congrArg _ (before_4 m c d4)).trans (own_4 c _))) $$ H4
    iapply (Entails.of_eq (own_5 c _)) $$ H5
  let ends : Fin cfg0.W → sProp 𝕄 := fun w =>
    owns c ((cfg0.win w).stage (cfg0.slots t0_0 w)) fullShare ((dat m c).after w t0_0)
  have hout : wins (wq m) (wo m) c (wx m c) (wk m c) (wv m c) (res m c)
      ⊢ iprop(ends 0 ∗ ends 1 ∗ ends 2 ∗ ends 3 ∗ ends 4 ∗ ends 5) := by
    unfold wins
    iintro ⟨H0, H1, H2, H3, H4, H5⟩
    isplitl [H0]; · iapply (Entails.of_eq ((congrArg _ (iblk_0 m c)).trans (own_0 c _)).symm) $$ H0
    isplitl [H1]; · iapply (Entails.of_eq ((congrArg _ (iblk_1 m c)).trans (own_1 c _)).symm) $$ H1
    isplitl [H2]; · iapply (Entails.of_eq ((congrArg _ (iblk_2 m c)).trans (own_2 c _)).symm) $$ H2
    isplitl [H3]; · iapply (Entails.of_eq ((congrArg _ (iblk_3 m c)).trans (own_3 c _)).symm) $$ H3
    isplitl [H4]; · iapply (Entails.of_eq ((congrArg _ (iblk_4 m c)).trans (own_4 c _)).symm) $$ H4
    iapply (Entails.of_eq (own_5 c _).symm) $$ H5
  rw [bigSep_W0, bigSep_W0, phi_first, phi_last, prog_eq]
  have h : iprop(phi0 m c ∗ (dat m c).owesAt () t0_0.castSucc ∗ ∃ g, wins (wq m) (wo m) c (wx m c) (wk m c) (wv m c) g)
      ⊢ run c (body (Memref.whole cc0_stg0_0) (Memref.whole cc0_stg1_0) (Memref.whole cc0_stg2_0)
          (Memref.whole cc0_stg3_0) (Memref.whole cc0_stg4_0) (Memref.whole cc0_stg5_0))
        (fun _ => iprop(phi1 (F := F) c ∗ (dat m c).owesAt () t0_0.succ
          ∗ ends 0 ∗ ends 1 ∗ ends 2 ∗ ends 3 ∗ ends 4 ∗ ends 5)) := by
    unfold phi0 Xk
    iintro ⟨⟨⟨⟨%K, Hop⟩, Hcr, Hlev⟩, Hst, Hp⟩, HO, ⟨%g, Hw⟩⟩
    ihave HO := (owes_in m c) $$ HO
    icases HO with ⟨%W, HO⟩
    iapply (body_run (wq m) (wo m) c (wx m c) (wk m c) (wv m c) K g W _)
    isplitl [Hop Hcr Hlev]
    · isplitl [Hop]; · iexact Hop
      isplitl [Hcr]; · iexact Hcr
      iexact Hlev
    isplitl [Hw]; · iexact Hw
    isplitl [Hst]; · iexact Hst
    isplitl [HO]; · iexact HO
    unfold post phi1
    iintro ⟨Hw, Hst, Hs, Hb, ⟨%W', HO⟩⟩
    isplitl [Hs Hb Hst Hp]
    · isplitl [Hs Hb]
      · isplitl [Hs]; · iexact Hs
        iexact Hb
      isplitl [Hst]; · iexact Hst
      iexact Hp
    isplitl [HO]; · iapply (owes_out m c W'); iexact HO
    iapply hout
    iexact Hw
  unfold run at h
  rw [bigSep_W0] at hin
  iintro ⟨HP, HO, HW⟩
  ihave Hg := h $$ [HP HO HW]
  · isplitl [HP]; · iexact HP
    isplitl [HO]; · iexact HO
    iapply hin
    iexact HW
  iexact Hg

end Cert.KernelIdeal.Ring

end
-- ==== Proof.Talk.lean ====
/- The kernel's region in @main: what a device enters it with and leaves it with. -/
module

public import Idealize.ShloMosaic.Lib.Pipeline.RegionTalk
public import proofs.«01_k».proof.Proof.Region

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

open Idealize.ShloMosaic.Pipeline (Dat)

variable (m : (ℓ : Loc nD τ sig) → Buf (Elt F) ℓ)

/-! ## What the region is entered and left with -/

abbrev adm : (p : Fin 1) → (pcfgs (F := F) p).Adm := fun p => (cfgs p).toPCfg_adm
abbrev pdats : (p : Fin 1) → (c : Dev nD) → Dat τ (Elt F) Unit ℕ UU ℕ (Pipeline.pin (pcfgs (F := F)) adm p) c
  | 0 => dat m

/-- A device's buffers at the launch, at the region's entry and at its exit. -/
abbrev V₀ (c : Dev nD) : Valuation τ sig (Elt F) := fun b => m (c, b)
abbrev V₁ (c : Dev nD) : Valuation τ sig (Elt F) := StableHlo.after hostOps0 (V₀ m c)
abbrev V₂ (c : Dev nD) : Valuation τ sig (Elt F) := Function.update (V₁ m c) (Proc.devRef .tc main_v3) (res m c)

abbrev bufs : Finset (DevRef τ sig) := Pipeline.ucRefs τ sig
abbrev arrs : Finset (DevRef τ sig) := Pipeline.arrRefs (τ := τ) spec0
theorem arrs_sub : arrs ⊆ bufs := Pipeline.arrRefs_sub_ucRefs spec0 (by decide)

/-- A conjunction over all, taken together and apart. -/
theorem join {I : Type} [Fintype I] (Φ Ψ : I → sProp 𝕄) :
    iprop(bigSep Finset.univ Φ ∗ bigSep Finset.univ Ψ) ⊢ bigSep Finset.univ fun i => iprop(Φ i ∗ Ψ i) :=
  Entails.of_eq (bigSep_sep' _ _ _).symm
theorem apart {I : Type} [Fintype I] (Φ Ψ : I → sProp 𝕄) :
    (bigSep Finset.univ fun i => iprop(Φ i ∗ Ψ i)) ⊢ iprop(bigSep Finset.univ Φ ∗ bigSep Finset.univ Ψ) :=
  Entails.of_eq (bigSep_sep' _ _ _)

/-- What of the protocol a device keeps from the launch. -/
def ghost (K : GSem nD τ sig → ℕ) (c : Dev nD) : sProp 𝕄 :=
  iprop(invAll (wq m) (wo m) K ∗ atPos ER (bc c) 0 ∅ 0 ∗ (reached ER (bc (left c)) 0 ∗ reached ER (bc (right c)) 0)
    ∗ (bigSep (Finset.univ : Finset (Fin 124)) fun k => openTok ER (dc c (6 + k.val))) ∗ pays (F := F) c)
def Tk (c : Dev nD) : sProp 𝕄 := iprop((∃ K, ghost m K c) ∗ credit (F := F) c)
def Yk (c : Dev nD) : sProp 𝕄 := semVal (bc c) 0

theorem own_sems (c : Dev nD) : (Pipeline.ownSems0 osem c : sProp 𝕄)
    = bigSep (Finset.univ : Finset (Fin 124)) fun k => semVal (dc c (6 + k.val)) 0 := rfl

theorem open_region (c : Dev nD) : iprop(Tk m c ∗ Pipeline.ownSems0 osem c ∗ levAts L lv) ⊢ (|={Set.univ}=> Xk m c : sProp 𝕄) := by
  rw [own_sems]
  unfold Tk Xk ghost pays
  iintro ⟨⟨⟨%K, #HI, Hat, #Hr, Hopen, Hb, Ht⟩, Hcr⟩, Hs, #Hlev⟩
  imod (open_cells (wq m) (wo m) c K) $$ [Hopen Hs] with Hlegs
  · isplitr; · iexact HI
    iapply (join (F := F) _ _)
    isplitl [Hopen]; · iexact Hopen
    iexact Hs
  imodintro
  isplitl [Hat Hb Ht Hlegs]
  · iexists K
    unfold opened
    isplitr; · iexact HI
    isplitl [Hat]; · iexact Hat
    isplitr; · iexact Hr
    isplitl [Hb]; · iexact Hb
    isplitl [Hlegs]; · iexact Hlegs
    iexact Ht
  isplitl [Hcr]; · iexact Hcr
  iexact Hlev

theorem held_none (c : Dev nD) (W : Valuation τ sig (Elt F)) :
    (StableHlo.held (c.tc : Thread nD τ) ∅ W : sProp 𝕄) = BI.emp := by
  unfold StableHlo.held; exact BI.bigSep_empty

theorem rest_eq (c : Dev nD) : (Pipeline.scopedRest (Pipeline.pin (pcfgs (F := F)) adm 0).spec c : sProp 𝕄)
    = iprop(stack (F := F) true c ∗ stack (F := F) false c) := scopedRest0_eq c

theorem enter_region (c : Dev nD) :
    iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [show (pdats m 0 c).Φ 0 = phi0 m c from phi_first m c, rest_eq, held_none]
  unfold phi0
  iintro ⟨Hs, Hp, -, HX⟩
  isplitl [HX]; · iexact HX
  isplitl [Hs]; · iexact Hs
  iexact Hp

theorem leave_region (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last _) = phi1 (F := F) c from phi_last m c, rest_eq, held_none, own_sems]
  unfold phi1 Yk
  iintro ⟨⟨Hos, Hb⟩, Hs, Hp⟩
  isplitl [Hs]; · iexact Hs
  isplitl [Hp]; · iexact Hp
  isplitr; · iempintro
  isplitl [Hos]; · iexact Hos
  iexact Hb

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then owed₀ c else 0 := rfl
  rw [e] at h
  split at h
  · exact owed₀_pos h
  · exact absurd h (Nat.lt_irrefl 0)

theorem stage_low (w : Fin 6) (s) : role ((spec0 w).sem s).val = none := by
  fin_cases w <;> rfl

theorem arr_start (c : Dev nD) (w : Fin 6) : (pdats m 0 c).arrAt w 0 = V₁ m c (Proc.devRef .tc (Pipeline.arrRef spec0 w)) := rfl

theorem V₂_ne (c : Dev nD) {b : DevRef τ sig} (h : b ≠ Proc.devRef .tc main_v3) : V₂ m c b = V₁ m c b :=
  Function.update_of_ne h _ _
theorem V₂_v3 (c : Dev nD) : V₂ m c (Proc.devRef .tc main_v3) = res m c := Function.update_self _ _ _

theorem arr_end (c : Dev nD) (w : Fin 6) :
    (pdats m 0 c).arrAt w (Pipeline.pin (pcfgs (F := F)) adm 0).N = V₂ m c (Proc.devRef .tc (Pipeline.arrRef spec0 w)) := by
  fin_cases w
  · exact ((dat m c).arrAt_in 0 rfl _).trans (V₂_ne m c (b := Proc.devRef .tc main_arg0) (by decide)).symm
  · exact ((dat m c).arrAt_in 1 rfl _).trans (V₂_ne m c (b := Proc.devRef .tc main_arg1) (by decide)).symm
  · exact ((dat m c).arrAt_in 2 rfl _).trans (V₂_ne m c (b := Proc.devRef .tc main_arg4) (by decide)).symm
  · exact ((dat m c).arrAt_in 3 rfl _).trans (V₂_ne m c (b := Proc.devRef .tc main_v1) (by decide)).symm
  · exact ((dat m c).arrAt_in 4 rfl _).trans (V₂_ne m c (b := Proc.devRef .tc main_v2) (by decide)).symm
  · exact (arr_out m c).trans (V₂_v3 m c).symm

theorem rest_same (c : Dev nD) : ∀ b ∈ (bufs \ arrs) \ ∅, V₂ m c b = V₁ m c b := fun b hb =>
  V₂_ne m c fun e => by
    subst e
    exact (Finset.mem_sdiff.mp (Finset.mem_sdiff.mp hb).1).2 (by decide)

set_option backward.isDefEq.respectTransparency.types false in
/-- The kernel's region. -/
def reg : Pipeline.RegionSeg (pcfgs (F := F)) adm (pdats m) () defs₀ 𝒱₀ L lv 0 :=
  Pipeline.RegionSeg.ofTalk (pcfgs (F := F)) adm (pdats m) () defs₀ 𝒱₀ L lv 0 osem
    (by decide : Pipeline.OwnSemFacts spec0 osem)
    ∅ (bufs \ arrs) (Finset.empty_subset _) kit rfl (fun c => (body_ob m c).loose)
    (fun _ => 0) owed₀ (fun c => (owed_first m c).trans (zero_add _).symm) (fun c => owed_last m c) (fun _ => rfl)
    (fun c w => by fin_cases w <;> rfl)
    (V₁ m) (V₂ m) (rest_same m)
    (Tk m) Yk (Xk m) Yk (open_region m) (enter_region m) (leave_region m)
    (fun c => by iintro H; imodintro; iexact H)
    (fun _ => 0)
    ⟨fun c w s => by rw [L_tc]; exact Finset.mem_singleton_self _,
      fun c w s => by
        show (match role ((spec0 w).sem s).val with
          | some (true, _, _, h) => h + 2
          | _ => 0) ≤ 0
        rw [stage_low], fun c t g i h => owed_cut m c t g i h⟩
    (fun _ => iprop(emp))
    (arr_start m) (arr_end m)

end Cert.KernelIdeal.Ring

end
-- ==== Proof.Run.lean ====
/- The run of the whole program, over any float values. -/
module

public import proofs.«01_k».proof.Proof.Talk

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## @main's segments -/

/-- What rides along the host's operations. -/
def ride (c : Dev nD) : sProp 𝕄 :=
  iprop(Tk m c ∗ (∃ r, prngReg c r) ∗ ∃ W, owes (c : Thread nD τ) (owed₀ c) W)

theorem host_sub : ∀ op ∈ (hostOps0 : List (HloOp τ sig (Elt F))), op.bufs ⊆ bufs := fun op h =>
  Pipeline.sub_ucRefs op (List.forall_iff_forall_mem.mp hostOps0_sub op h)

def host : Pipeline.HostSeg (Name := ℕ) (U := UU) (pcfgs (F := F)) defs₀ 𝒱₀ L lv :=
  Pipeline.HostSeg.ofOps _ _ _ _ _ bufs hostOps0 host_sub (List.forall_iff_forall_mem.mp hostOps0_fresh) (V₀ m) (ride m)

def segs : List (Pipeline.Seg (pcfgs (F := F)) adm (pdats m) () defs₀ 𝒱₀ L lv) := [.host (host m), .region (reg m)]

theorem reg_pre (c : Dev nD) : iprop(StableHlo.held (c : Thread nD τ) bufs (V₁ m c) ∗ ride m c) ⊢ (reg m).pre c := by
  show _ ⊢ iprop(StableHlo.held (c.tc : Thread nD τ) arrs (V₁ m c) ∗ (∃ r, prngReg c r)
    ∗ (StableHlo.held (c.tc : Thread nD τ) (bufs \ arrs) (V₁ m c) ∗ emp) ∗ Tk m c ∗ ∃ Wd, owes (c : Thread nD τ) (0 + owed₀ c) Wd)
  rw [StableHlo.held_sub_split (c : Thread nD τ) arrs_sub, zero_add]
  unfold ride
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c
    ⊢ iprop((StableHlo.held (c : Thread nD τ) bufs (V₂ m c) ∗ semVal (bc c) 0)
      ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) (bufs \ arrs) (V₂ m c) ∗ emp) ∗ Yk c
    ∗ ∃ Wd, owes (c : Thread nD τ) (0 : CellTallies nD τ sig Unit) Wd) ⊢ _
  rw [StableHlo.held_sub_split (c : Thread nD τ) arrs_sub]
  unfold Yk
  iintro ⟨Ha, -, ⟨Hr, -⟩, Hb, HO⟩
  isplitl [Ha Hr Hb]
  · isplitl [Ha Hr]
    · isplitl [Ha]; · iexact Ha
      iexact Hr
    iexact Hb
  iexact HO

/-! ## The launch -/

/-- The launch's ghost state: the staging cells', and the protocol's. -/
def u₀ : UU :=
  (initOf (Pipeline.cells (Pipeline.pin (pcfgs (F := F)) adm) cellOf_inj) (Pipeline.launchToks (Pipeline.pin (pcfgs (F := F)) adm) cellOf_inj),
    launchOf barCells dmaCells duties)

/-- The protocol's ghost state, all of it kept by one device until it is dealt. -/
def keep (X : sProp 𝕄) (c : Dev nD) : sProp 𝕄 := if c = 0 then X else iprop(emp)
theorem keep_all (X : sProp 𝕄) : bigSep Finset.univ (keep X) = X := by
  rw [bigSep_univ_at _ (0 : Dev nD), bigSep_congr (s := Finset.univ.erase 0) (Ψ := fun _ => (BI.emp : sProp 𝕄))
      fun c hc => by unfold keep; rw [if_neg (Finset.ne_of_mem_erase hc)]; rfl, BI.bigSep_emp_const]
  unfold keep; rw [if_pos rfl]
  exact BI.equiv_iff.mp sep_emp
def G : Dev nD → sProp 𝕄 := keep (BI.own (ER (launchOf barCells dmaCells duties)))

/-- What every device may consult: every cell's invariant, and the barrier's cells at their first round. -/
def records (κ : GSem nD τ sig → ℕ) : sProp 𝕄 :=
  iprop(invAll (wq m) (wo m) κ ∗ bigSep barCells fun g => reached ER g 0)
instance records_persistent (κ : GSem nD τ sig → ℕ) : BI.Persistent (records m κ) := by unfold records; infer_instance

/-- A device's own share of the protocol. -/
def mine (c : Dev nD) : sProp 𝕄 :=
  iprop(atPos ER (bc c) 0 ∅ 0 ∗ (bigSep (Finset.univ : Finset (Fin 124)) fun k => openTok ER (dc c (6 + k.val))) ∗ pays (F := F) c)
/-- What else a device has at the launch. -/
def other (c : Dev nD) : sProp 𝕄 :=
  iprop(StableHlo.held (c : Thread nD τ) bufs (V₀ m c) ∗ credit (F := F) c ∗ owes (c : Thread nD τ) (owed₀ c) ∅ ∗ ∃ r, prngReg c r)

abbrev T₀ (c : Dev nD) : sProp 𝕄 := iprop(StableHlo.held (c : Thread nD τ) bufs (V₀ m c) ∗ ride m c)
abbrev Tₙ (c : Dev nD) : sProp 𝕄 := iprop(StableHlo.held (c : Thread nD τ) bufs (V₂ m c) ∗ semVal (bc c) 0)

theorem reached_bar (c : Dev nD) : (bigSep barCells fun g => (reached ER g 0 : sProp 𝕄)) ⊢ reached ER (bc c) 0 :=
  bigSep_elim (mem_bar c)

theorem T₀_intro (κ : GSem nD τ sig → ℕ) (c : Dev nD) : iprop(records m κ ∗ (mine (F := F) c ∗ other m c)) ⊢ T₀ m c := by
  unfold other T₀ ride records mine Tk ghost
  iintro ⟨⟨#HI, #HR⟩, ⟨Hat, Hopen, Hpays⟩, Hh, Hcr, HO, Hp⟩
  isplitl [Hh]; · iexact Hh
  isplitl [Hat Hopen Hpays Hcr]
  · isplitr [Hcr]
    · iexists κ
      isplitr; · iexact HI
      isplitl [Hat]; · iexact Hat
      isplitr
      · isplitr
        · iapply (reached_bar (F := F) (left c)); iexact HR
        · iapply (reached_bar (F := F) (right c)); iexact HR
      isplitl [Hopen]; · iexact Hopen
      iexact Hpays
    · iexact Hcr
  isplitl [Hp]; · iexact Hp
  iexists ∅; iexact HO

theorem bufs_held (c : Dev nD) : (unscopedBufs c (fun b => m ((c : Thread nD τ).loc b)) : sProp 𝕄)
    = StableHlo.held (c : Thread nD τ) bufs (V₀ m c) := by
  unfold unscopedBufs StableHlo.held bufs Pipeline.ucRefs StableHlo.tcRefs
  rw [Finset.filter_map, BI.bigSep_map]
  rfl

theorem sems_bar (c : Dev nD) : (unscopedSems0 c : sProp 𝕄) = semVal (bc c) 0 := by
  unfold unscopedSems0
  rw [show (Finset.univ.filter fun sm : SemLoc sig => ¬ sm.isScoped .tc) = {SemLoc.reg bar} from by decide, BI.bigSep_singleton]

theorem init :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owed₀ c) ∅ ∗ Pipeline.launchCred owed₀ c ∗ prngReg c (ρ c) ∗ G c)
      ⊢ (iprop(other m c ∗ (semVal (bc c) 0 ∗ G c)) : sProp 𝕄) := by
    rw [bufs_held, sems_bar]
    unfold other
    iintro ⟨Hh, Hus, HO, Hcr, Hp, HG⟩
    ihave Hc := (credit_intro (F := F) c) $$ Hcr
    isplitl [Hh Hc HO Hp]
    · isplitl [Hh]; · iexact Hh
      isplitl [Hc]; · iexact Hc
      isplitl [HO]; · iexact HO
      iexists (ρ c); iexact Hp
    isplitl [Hus]; · iexact Hus
    iexact HG
  have hv : bigSep Finset.univ (fun c : Dev nD => (semVal (bc c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (bc c) 0 ∅ 0 : sProp 𝕄)) :=
    Entails.of_eq (bigSep_map (s := Finset.univ) barEmb (Φ := fun g : GSem nD τ sig => (atPos ER g 0 ∅ 0 : sProp 𝕄)))
  have hopen : bigSep dmaCells (fun g => (openTok ER g : sProp 𝕄))
      ⊢ bigSep Finset.univ (fun c : Dev nD => bigSep (Finset.univ : Finset (Fin 124)) fun k => (openTok ER (dc c (6 + k.val)) : sProp 𝕄)) :=
    Entails.of_eq (by unfold dmaCells; rw [bigSep_map, bigSep_univ_prod]; rfl)
  have hinv (κ : GSem nD τ sig → ℕ) : bigSep (barCells ∪ dmaCells) (fun g => (cellInv ER (sched (wq m) (wo m)) (κ g) g : sProp 𝕄))
      ⊢ invAll (wq m) (wo m) κ := Entails.of_eq (by unfold invAll; rw [allCells_eq])
  have hall : (bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ G c))
      ⊢ (bigSep Finset.univ fun c : Dev nD => iprop(other m c ∗ (semVal (bc c) 0 ∗ G c)) : sProp 𝕄) := bigSep_mono fun c _ => hcore c
  have hu : bigSep Finset.univ (G (F := F)) ⊢ BI.own (ER (launchOf barCells dmaCells duties)) :=
    Entails.of_eq (keep_all (F := F) (BI.own (ER (launchOf barCells dmaCells duties))))
  iintro ⟨H, -⟩
  ihave H' := hall $$ H
  ihave H2 := (apart (F := F) _ _) $$ H'; icases H2 with ⟨HB, H3⟩
  ihave H4 := (apart (F := F) _ _) $$ H3; icases H4 with ⟨Hv, HG⟩
  ihave Hu := hu $$ HG
  imod (Rounds.fund_launch ER (sched (wq m) (wo m)) cells_disj (fun g _ h => h) duties) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(mine (F := F) c ∗ other m c)) fun c _ => T₀_intro m κ c)
  isplitr
  · unfold records
    isplitr; · iapply (hinv κ); iexact Hinv
    iexact Hr
  iapply (join (F := F) _ _)
  isplitr [HB]
  · unfold mine
    iapply (join (F := F) _ _); isplitl [Hat]; · iapply hat $$ Hat
    iapply (join (F := F) _ _); isplitl [Hopen]; · iapply hopen $$ Hopen
    iapply (Entails.of_eq (duties_deal (F := F))) $$ Htok
  · iexact HB

/-! ## The run -/

theorem bufs_eq (c : Dev nD) (W : Valuation τ sig (Elt F)) : (StableHlo.held (c : Thread nD τ) bufs W : sProp 𝕄)
    = iprop((((c : Thread nD τ).loc main_arg0) ↦{fullShare} W (Proc.devRef .tc main_arg0))
      ∗ (((c : Thread nD τ).loc main_arg1) ↦{fullShare} W (Proc.devRef .tc main_arg1))
      ∗ (((c : Thread nD τ).loc main_arg2) ↦{fullShare} W (Proc.devRef .tc main_arg2))
      ∗ (((c : Thread nD τ).loc main_arg3) ↦{fullShare} W (Proc.devRef .tc main_arg3))
      ∗ (((c : Thread nD τ).loc main_arg4) ↦{fullShare} W (Proc.devRef .tc main_arg4))
      ∗ (((c : Thread nD τ).loc main_v1) ↦{fullShare} W (Proc.devRef .tc main_v1))
      ∗ (((c : Thread nD τ).loc main_v2) ↦{fullShare} W (Proc.devRef .tc main_v2))
      ∗ (((c : Thread nD τ).loc main_v3) ↦{fullShare} W (Proc.devRef .tc main_v3))) := by
  unfold StableHlo.held bufs
  rw [bigSep_eq_bigSepL_of_eq [Proc.devRef .tc main_arg0, Proc.devRef .tc main_arg1, Proc.devRef .tc main_arg2,
    Proc.devRef .tc main_arg3, Proc.devRef .tc main_arg4, Proc.devRef .tc main_v1, Proc.devRef .tc main_v2,
    Proc.devRef .tc main_v3] (by decide) (by decide)]
  rfl

theorem unscoped_eq : ∀ sm : SemLoc sig, sm.isScoped .tc = false → sm = .reg bar := by decide

/-- What the run leaves on a device. -/
def Left (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4))
  ∧ s.mem ((c : Thread nD τ).loc main_v3) = res m c

set_option backward.isDefEq.respectTransparency.types false in
/-- The run: every execution ends, the arguments unchanged, the result's array holding the result, and every
    semaphore counter at zero. -/
theorem run_main : θ_run defs (onTc (τ := τ) (main (F := F))) ⟨m, fun _ => 0, ρ⟩
    (fun r => (∀ c : Dev nD, Left m c r.2) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host m) (reg m) rfl c]; rfl)
    (by simp only [segs, Pipeline.Seg.pipes_host, Pipeline.Seg.pipes_region, Pipeline.Seg.pipes_nil]; decide)
    (O₀ := owed₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [keep_all]; iexact HX)
    (T₀ := T₀ m) (Tₙ := Tₙ m)
    (hch := ⟨fun c => .rfl, fun c => reg_pre m c, fun c => reg_post m c⟩)
    (hinit := init m ρ)
    (QY := fun c s => Left m c s ∧ s.sem (bc c) = 0)
    (hfin := fun c s' => by
      dsimp only [Tₙ]; rw [bufs_eq, V₂_v3, V₂_ne m c (by decide), V₂_ne m c (by decide), V₂_ne m c (by decide),
        V₂_ne m c (by decide), V₂_ne m c (by decide)]
      iintro ⟨⟨⟨H0, H1, H2, H3, H4, -, -, H5⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨⟨(Buf.eq_of_forall_mem_univ h0).trans (V_main_arg0 m c), (Buf.eq_of_forall_mem_univ h1).trans (V_main_arg1 m c),
          (Buf.eq_of_forall_mem_univ h2).trans (V_main_arg2 m c), (Buf.eq_of_forall_mem_univ h3).trans (V_main_arg3 m c),
          (Buf.eq_of_forall_mem_univ h4).trans (V_main_arg4 m c)⟩, Buf.eq_of_forall_mem_univ h5⟩, by simpa using hb⟩
      iexact HSI)
    (hQ := fun s h hs => ⟨fun c => (h c).1,
      sem_eq_zero hs fun c sm hsm => by
        obtain rfl := unscoped_eq sm hsm
        exact (h c).2⟩)

end Cert.KernelIdeal.Ring

end
-- ==== Proof.Frames.lean ====
/- The frames: each program runs, leaves its arguments as they were and its semaphores at zero. -/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Proof

open Idealize.ShloMosaic Idealize.ShloMosaic.TcCoe Idealize.SL.Sem

/-- The kernel on any float values: it ends with its arguments as they were and its semaphores at zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run Cert.KernelIdeal.defs _ _).mono (fun _ h => ⟨fun c => (h.1 c).1, h.2⟩) (Cert.KernelIdeal.Ring.run_main m ρ)

section
variable {F : FTy → Type} [FloatOps F]

/-- The two printed texts of the kernel body are the same. -/
theorem body_same : @Cert.Kernel.cc0_body F _ _ = @Cert.KernelIdeal.cc0_body F _ _ := rfl

/-- So are the two body tables: each has the one label. -/
theorem bodies_same : Cert.Kernel.defs₀ (F := F) = Cert.KernelIdeal.defs₀ (F := F) := by
  unfold Cert.Kernel.defs₀ Cert.KernelIdeal.defs₀
  refine congrArg Defs.onTc (funext fun ℓ => funext fun a => ?_)
  match ℓ, a with
  | 0, (t, s) => rfl

/-- And the tables with the pipeline's own labels. -/
theorem tables_same : Cert.Kernel.defs (F := F) = Cert.KernelIdeal.defs (F := F) :=
  congrArg (Pipeline.defs Cert.Kernel.pcfgs) bodies_same

end

/-- The kernel as printed, on the machine's own values. -/
theorem frame_kernel : Cert.quiescent_Kernel := fun m ρ _ => by
  rw [tables_same]
  exact frame_any (F := Bits) m ρ

/-- The kernel over the real numbers. -/
theorem frame_kernelIdeal : Cert.quiescent_KernelIdeal := fun m ρ _ => frame_any (F := Ideal) m ρ

/-- The reference over the real numbers; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.RefValue.lean ====
/- The reference's result read at an index: one row of attention, its context, the output product. -/
module

public import proofs.«01_k».proof.Proof.Gen.ReferenceIdeal.Run
public import Idealize.ShloMosaic.Lib.Pointwise

@[expose] public section

noncomputable section

/-! ## One row of attention -/

namespace Cert.Row

open Idealize.ShloMosaic

/-- Whether a query in block `n` sees a key in block `k`. -/
def sees (n k : ℕ) : BitVec 1 := if n = k ∨ k % 4 = n % 4 then 1#1 else 0#1
/-- Whether a query in block `n` sees key `j`. -/
def seesKey (n : ℕ) (j : Fin 128) : BitVec 1 := sees n (j.val / 64)
/-- Whether a query in block `n` sees a key at all. -/
def seesAny (n : ℕ) : BitVec 1 := if ∃ j : Fin 128, seesKey n j = 1#1 then 1#1 else 0#1

variable (n : ℕ) (q : Fin 64 → EReal) (k : Fin 128 → Fin 64 → EReal)

/-- A scaled score, masked. -/
def score (j : Fin 128) : EReal :=
  Scalar.select (seesKey n j) ((∑ d : Fin 64, q d * k j d) * Ideal.ofBits .f32 0x3E000000#32)
    (Ideal.ofBits .f32 0xCE6E6B28#32)
/-- The row's maximum. -/
def top : EReal := Finset.univ.fold max (Ideal.ofBits .f32 0xFF800000#32) (score n q k)
/-- A score's exponential, against the row's maximum. -/
def ex (j : Fin 128) : EReal := Ideal.exp (score n q k j - top n q k)
/-- A weight. -/
def weight (j : Fin 128) : EReal :=
  Scalar.select (seesAny n)
    (Ideal.div (ex n q k j) (Scalar.select (seesAny n) (∑ j' : Fin 128, ex n q k j') 1)) 0
/-- The context. -/
def ctx (v : Fin 128 → Fin 64 → EReal) (d : Fin 64) : EReal := ∑ j : Fin 128, weight n q k j * v j d

end Cert.Row

namespace Cert.ReferenceIdeal.Value

open Cert.ReferenceIdeal Cert.ReferenceIdeal.Gen Idealize.ShloMosaic Idealize.ShloMosaic.TcCoe Idealize.SL.Sem Idealize.ShloMosaic.StableHlo
open Cert.Row

/-! ## The reference's steps -/

/-- The queries' blocks. -/
def qblk : IVec S4096 32 :=
  let i := iotaInDim S4096 32 0
  let c := id (constantI S_ 32 64#32)
  let b := broadcastInDim S4096 ![] bcast_S_S4096 c
  let z := broadcastInDim S4096 ![] bcast_S_S4096 (constantI S_ 32 0#32)
  select (andi (cmpi .ne (signi i) (broadcastInDim S4096 ![] bcast_S_S4096 (signi c))) (cmpi .ne (Host.remsi i b) z))
    (subi (Host.divsi i b) (broadcastInDim S4096 ![] bcast_S_S4096 (constantI S_ 32 1#32))) (Host.divsi i b)
/-- The keys' blocks. -/
def kblk : IVec S128 32 :=
  let i := iotaInDim S128 32 0
  let c := id (constantI S_ 32 64#32)
  let b := broadcastInDim S128 ![] bcast_S_S128 c
  let z := broadcastInDim S128 ![] bcast_S_S128 (constantI S_ 32 0#32)
  select (andi (cmpi .ne (signi i) (broadcastInDim S128 ![] bcast_S_S128 (signi c))) (cmpi .ne (Host.remsi i b) z))
    (subi (Host.divsi i b) (broadcastInDim S128 ![] bcast_S_S128 (constantI S_ 32 1#32))) (Host.divsi i b)
/-- Four, or one if four were zero. -/
def four : IVec S_ 32 :=
  let c := id (constantI S_ 32 4#32)
  select (cmpi .eq c (constantI S_ 32 0#32)) (constantI S_ 32 1#32) c
/-- The keys' blocks modulo four. -/
def kmod (x : IVec S1x128 32) : IVec S1x128 32 :=
  let f := broadcastInDim S1x128 ![] bcast_S_S1x128 four
  let z := broadcastInDim S1x128 ![] bcast_S_S1x128 (constantI S_ 32 0#32)
  let r := Host.remsi x f
  select (andi (cmpi .ne (cmpi .slt r z) (broadcastInDim S1x128 ![] bcast_S_S1x128 (cmpi .slt four (constantI S_ 32 0#32))))
    (cmpi .ne r z)) (addi r f) r
/-- The queries' blocks modulo four. -/
def qmod (x : IVec S4096x1 32) : IVec S4096x1 32 :=
  let f := broadcastInDim S4096x1 ![] bcast_S_S4096x1 four
  let z := broadcastInDim S4096x1 ![] bcast_S_S4096x1 (constantI S_ 32 0#32)
  let r := Host.remsi x f
  select (andi (cmpi .ne (cmpi .slt r z) (broadcastInDim S4096x1 ![] bcast_S_S4096x1 (cmpi .slt four (constantI S_ 32 0#32))))
    (cmpi .ne r z)) (addi r f) r
/-- The mask. -/
def mask : IVec S4096x128 1 :=
  let q := broadcastInDim S4096x1 ![0] bcast_S4096_S4096x1_0 qblk
  let k := broadcastInDim S1x128 ![1] bcast_S128_S1x128_1 kblk
  ori (cmpi .eq (broadcastInDim S4096x128 ![0, 1] bcast_S4096x1_S4096x128_0_1 q)
      (broadcastInDim S4096x128 ![0, 1] bcast_S1x128_S4096x128_0_1 k))
    (cmpi .eq (broadcastInDim S4096x128 ![0, 1] bcast_S1x128_S4096x128_0_1 (kmod k))
      (broadcastInDim S4096x128 ![0, 1] bcast_S4096x1_S4096x128_0_1 (qmod q)))
/-- The rows that see a key. -/
def keep : IVec S4096 1 := Host.reduce IntOp.ori mask (constantI S_ 1 0#1) reducesTo_S4096x128_S4096_d1 h_S_
/-- The queries. -/
def quer (x : FVec Ideal S2x4096x512 .bf16) (wq : FVec Ideal S512x8192 .bf16) : FVec Ideal S2x4096x8192 .f32 :=
  extf .f32 (truncf .bf16 (Host.dotGeneral dot_S2x4096x512_S512x8192_S2x4096x8192_2_0_01_1_n_n none
    (extf .f32 x bitsLt_bf16_f32) (extf .f32 wq bitsLt_bf16_f32)) bitsLt_bf16_f32) bitsLt_bf16_f32
/-- The masked scores. -/
def scores (q : FVec Ideal S2x4096x128x64 .f32) (k : FVec Ideal S2x128x128x64 .bf16) : FVec Ideal S2x128x4096x128 .f32 :=
  select (broadcastInDim S2x128x4096x128 ![0, 1, 2, 3] bcast_S1x1x4096x128_S2x128x4096x128_0_1_2_3
      (broadcastInDim S1x1x4096x128 ![2, 3] bcast_S4096x128_S1x1x4096x128_2_3 mask))
    (mulf (extf .f32 (truncf .bf16 (Host.dotGeneral dot_S2x4096x128x64_S2x128x128x64_S2x128x4096x128_3_3_1_1_02_02 none
        q (extf .f32 k bitsLt_bf16_f32)) bitsLt_bf16_f32) bitsLt_bf16_f32)
      (broadcastInDim S2x128x4096x128 ![] bcast_S_S2x128x4096x128 (constant S_ .f32 0x3E000000#32)))
    (broadcastInDim S2x128x4096x128 ![] bcast_S_S2x128x4096x128 (id (constant S_ .f32 0xCE6E6B28#32)))
/-- Their exponentials. -/
def exps (s : FVec Ideal S2x128x4096x128 .f32) : FVec Ideal S2x128x4096x128 .f32 :=
  Host.exp (subf s (broadcastInDim S2x128x4096x128 ![0, 1, 2, 3] bcast_S2x128x4096x1_S2x128x4096x128_0_1_2_3
    (broadcastInDim S2x128x4096x1 ![0, 1, 2] bcast_S2x128x4096_S2x128x4096x1_0_1_2
      (Host.reduce FloatOps.maximumf s (constant S_ .f32 0xFF800000#32) reducesTo_S2x128x4096x128_S2x128x4096_d3 h_S_))))
/-- The weights. -/
def wts (e : FVec Ideal S2x128x4096x128 .f32) : FVec Ideal S2x128x4096x128 .f32 :=
  let kp := broadcastInDim S1x1x4096x1 ![2] bcast_S4096_S1x1x4096x1_2 keep
  select (broadcastInDim S2x128x4096x128 ![0, 1, 2, 3] bcast_S1x1x4096x1_S2x128x4096x128_0_1_2_3 kp)
    (Host.divf e (broadcastInDim S2x128x4096x128 ![0, 1, 2, 3] bcast_S2x128x4096x1_S2x128x4096x128_0_1_2_3
      (select (broadcastInDim S2x128x4096x1 ![0, 1, 2, 3] bcast_S1x1x4096x1_S2x128x4096x1_0_1_2_3 kp)
        (broadcastInDim S2x128x4096x1 ![0, 1, 2] bcast_S2x128x4096_S2x128x4096x1_0_1_2
          (Host.reduceAdd e (constant S_ .f32 0x00000000#32) reducesTo_S2x128x4096x128_S2x128x4096_d3 h_S_))
        (broadcastInDim S2x128x4096x1 ![] bcast_S_S2x128x4096x1 (id (constant S_ .f32 0x3F800000#32))))))
    (broadcastInDim S2x128x4096x128 ![] bcast_S_S2x128x4096x128 (id (constant S_ .f32 0x00000000#32)))
/-- The contexts. -/
def ctxs (w : FVec Ideal S2x128x4096x128 .f32) (v : FVec Ideal S2x128x128x64 .bf16) : FVec Ideal S2x4096x128x64 .f32 :=
  transpose S2x4096x128x64 [0, 3, 1, 2] (Host.dotGeneral dot_S2x128x128x64_S2x128x4096x128_S2x128x64x4096_1_3_3_2_02_01 none
    (extf .f32 v bitsLt_bf16_f32) w) transposes_S2x128x64x4096_S2x4096x128x64_0_3_1_2
/-- The result, of the contexts. -/
def outs (y : FVec Ideal S2x4096x8192 .f32) (wo : FVec Ideal S8192x512 .bf16) : FVec Ideal S2x4096x512 .f32 :=
  Host.dotGeneral dot_S2x4096x8192_S8192x512_S2x4096x512_2_0_01_1_n_n none y (extf .f32 wo bitsLt_bf16_f32)
/-- The result. -/
def whole (x : FVec Ideal S2x4096x512 .bf16) (wq : FVec Ideal S512x8192 .bf16) (k v : FVec Ideal S2x128x128x64 .bf16)
    (wo : FVec Ideal S8192x512 .bf16) : FVec Ideal S2x4096x512 .f32 :=
  outs (shapeCast _ (ctxs (wts (exps (scores (shapeCast _ (quer x wq) shapeCasts_S2x4096x8192_S2x4096x128x64) k))) v)
    shapeCasts_S2x4096x128x64_S2x4096x8192) wo

theorem res_eq (m : (ℓ : Loc nD τ sig) → Buf (Elt Ideal) ℓ) (c : Dev nD) :
    res_main_v48 (F := Ideal) m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold res_main_v48
  rfl

/-! ## Read at an index -/

theorem quer_at (x : FVec Ideal S2x4096x512 .bf16) (wq : FVec Ideal S512x8192 .bf16) (b : Fin 2) (i : Fin 4096) (e : Fin 8192) :
    quer x wq (ix3 b i e) = ∑ p : Fin 512, x (ix3 b i p) * wq (ix2 p e) := by
  pointwise [quer]
theorem qblk_at (i : Fin 4096) : qblk (ix1 i) = BitVec.ofNat 32 (i.val / 64) := by
  pointwise [qblk, id]
  revert i
  decide +kernel
theorem kblk_at (j : Fin 128) : kblk (ix1 j) = BitVec.ofNat 32 (j.val / 64) := by
  pointwise [kblk, id]
  revert j
  decide +kernel
theorem four_at : four ix0 = 4#32 := by decide +kernel
theorem qmod_at (x : IVec S4096x1 32) (i : Fin 4096) (n : Fin 64) (hx : x (ix2 i 0) = BitVec.ofNat 32 n.val) :
    qmod x (ix2 i 0) = BitVec.ofNat 32 (n.val % 4) := by
  pointwise [qmod]
  rw [four_at, hx]
  clear hx
  revert n
  decide +kernel
theorem kmod_at (x : IVec S1x128 32) (j : Fin 128) (n : Fin 64) (hx : x (ix2 0 j) = BitVec.ofNat 32 n.val) :
    kmod x (ix2 0 j) = BitVec.ofNat 32 (n.val % 4) := by
  pointwise [kmod]
  rw [four_at, hx]
  clear hx
  revert n
  decide +kernel
theorem sees_eq (n k : Fin 64) : IntOp.ori (IntOp.cmpi .eq (BitVec.ofNat 32 n.val) (BitVec.ofNat 32 k.val))
    (IntOp.cmpi .eq (BitVec.ofNat 32 (k.val % 4)) (BitVec.ofNat 32 (n.val % 4))) = sees n k := by
  revert n k
  decide +kernel
theorem mask_at (i : Fin 4096) (j : Fin 128) : mask (ix2 i j) = seesKey (i.val / 64) j := by
  have hi : i.val / 64 < 64 := by have := i.isLt; omega
  have hj : j.val / 64 < 64 := by have := j.isLt; omega
  pointwise [mask]
  rw [qblk_at, kblk_at, qmod_at _ i ⟨i.val / 64, hi⟩ ((by pointwise [qblk_at])), kmod_at _ j ⟨j.val / 64, hj⟩ (by pointwise [kblk_at])]
  exact sees_eq ⟨_, hi⟩ ⟨_, hj⟩
theorem fold_ori (f : Fin 128 → BitVec 1) (s : Finset (Fin 128)) :
    s.fold IntOp.ori 0#1 f = if ∃ j ∈ s, f j = 1#1 then 1#1 else 0#1 := by
  induction s using Finset.induction_on with
  | empty => rw [Finset.fold_empty, if_neg (fun ⟨j, hj, _⟩ => absurd hj (Finset.notMem_empty j))]
  | insert a s ha ih =>
    rw [Finset.fold_insert ha, ih]
    by_cases h : f a = 1#1
    · rw [h, if_pos (show ∃ j ∈ insert a s, f j = 1#1 from ⟨a, Finset.mem_insert_self a s, h⟩)]
      split <;> rfl
    · rw [ValueIdx.eq_zero_of_ne_one h]
      have e : (∃ j ∈ insert a s, f j = 1#1) ↔ ∃ j ∈ s, f j = 1#1 :=
        ⟨fun ⟨j, hj, hf⟩ => ⟨j, (Finset.mem_insert.mp hj).resolve_left (fun he => h (he ▸ hf)), hf⟩,
          fun ⟨j, hj, hf⟩ => ⟨j, Finset.mem_insert_of_mem hj, hf⟩⟩
      simp only [e]
      split <;> rfl
theorem keep_at (i : Fin 4096) : keep (ix1 i) = seesAny (i.val / 64) := by
  pointwise [keep]
  rw [fold_ori]
  simp only [Finset.mem_univ, true_and, mask_at]
  rfl
theorem scores_at (q : FVec Ideal S2x4096x128x64 .f32) (k : FVec Ideal S2x128x128x64 .bf16) (b : Fin 2) (h : Fin 128)
    (i : Fin 4096) (j : Fin 128) :
    scores q k (ix4 b h i j) = score (i.val / 64) (fun d => q (ix4 b i h d)) (fun j d => k (ix4 b j h d)) j := by
  pointwise [scores, mask_at, id]
  rfl
theorem exps_at (s : FVec Ideal S2x128x4096x128 .f32) (b : Fin 2) (h : Fin 128) (i : Fin 4096) (j : Fin 128) :
    exps s (ix4 b h i j) = Ideal.exp (s (ix4 b h i j)
      - Finset.univ.fold max (Ideal.ofBits .f32 0xFF800000#32) fun j : Fin 128 => s (ix4 b h i j)) := by
  pointwise [exps]
theorem wts_at (e : FVec Ideal S2x128x4096x128 .f32) (b : Fin 2) (h : Fin 128) (i : Fin 4096) (j : Fin 128) :
    wts e (ix4 b h i j) = Scalar.select (keep (ix1 i))
      (Ideal.div (e (ix4 b h i j)) (Scalar.select (keep (ix1 i)) (∑ j : Fin 128, e (ix4 b h i j)) 1)) 0 := by
  pointwise [wts, id]
theorem ctxs_at (w : FVec Ideal S2x128x4096x128 .f32) (v : FVec Ideal S2x128x128x64 .bf16) (b : Fin 2) (i : Fin 4096)
    (h : Fin 128) (d : Fin 64) :
    ctxs w v (ix4 b i h d) = ∑ j : Fin 128, w (ix4 b h i j) * v (ix4 b j h d) := by
  pointwise [ctxs]
  exact Finset.sum_congr rfl fun j _ => mul_comm _ _
theorem outs_at (y : FVec Ideal S2x4096x8192 .f32) (wo : FVec Ideal S8192x512 .bf16) (b : Fin 2) (i : Fin 4096) (n : Fin 512) :
    outs y wo (ix3 b i n) = ∑ e : Fin 8192, y (ix3 b i e) * wo (ix2 e n) := by
  pointwise [outs]

/-- The column of lane `d` of head `h`. -/
def col (h : Fin 128) (d : Fin 64) : Fin 8192 := ⟨h.val * 64 + d.val, by have := h.isLt; have := d.isLt; omega⟩
/-- A column's head. -/
def hd (e : Fin 8192) : Fin 128 := ⟨e.val / 64, by have := e.isLt; omega⟩
/-- A column's lane in its head. -/
def ln (e : Fin 8192) : Fin 64 := ⟨e.val % 64, Nat.mod_lt _ (by decide)⟩

theorem apart_at {α : Type} (y : S2x4096x8192.Idx → α) (b : Fin 2) (i : Fin 4096) (h : Fin 128) (d : Fin 64) :
    shapeCast S2x4096x128x64 y shapeCasts_S2x4096x8192_S2x4096x128x64 (ix4 b i h d) = y (ix3 b i (col h d)) := by
  pointwise
  rfl
theorem joined_at {α : Type} (y : S2x4096x128x64.Idx → α) (b : Fin 2) (i : Fin 4096) (e : Fin 8192) :
    shapeCast S2x4096x8192 y shapeCasts_S2x4096x128x64_S2x4096x8192 (ix3 b i e) = y (ix4 b i (hd e) (ln e)) := by
  pointwise
  rfl
theorem whole_at (x : FVec Ideal S2x4096x512 .bf16) (wq : FVec Ideal S512x8192 .bf16) (k v : FVec Ideal S2x128x128x64 .bf16)
    (wo : FVec Ideal S8192x512 .bf16) (b : Fin 2) (i : Fin 4096) (n : Fin 512) :
    whole x wq k v wo (ix3 b i n) = ∑ e : Fin 8192,
      ctx (i.val / 64) (fun d => ∑ p : Fin 512, x (ix3 b i p) * wq (ix2 p (col (hd e) d)))
        (fun j d => k (ix4 b j (hd e) d)) (fun j d => v (ix4 b j (hd e) d)) (ln e) * wo (ix2 e n) := by
  unfold whole
  rw [outs_at]
  refine Finset.sum_congr rfl fun e _ => ?_
  rw [joined_at, ctxs_at]
  simp only [wts_at, exps_at, scores_at, apart_at, quer_at, keep_at]
  rfl

end Cert.ReferenceIdeal.Value

end
-- ==== Proof.KerValue.lean ====
/- What a chunk computes, read at an index: one row of attention for each head, and the output product. -/
module

public import proofs.«01_k».proof.Proof.Region
public import proofs.«01_k».proof.Proof.RefValue

@[expose] public section

noncomputable section

namespace Cert.KernelIdeal.Ring

open Idealize.ShloMosaic Idealize.ShloMosaic.TcCoe
open Cert.KernelIdeal.Gen
open Cert.Row

/-! ## The mask -/

theorem me_eq (c : Dev nD) : Scalar.muli (me c) 2#32 = BitVec.ofNat 32 (2 * c.val) := by
  revert c
  decide +kernel
/-- The block of a query row, as the kernel counts it. -/
theorem pay4_at (c : Dev nD) (r j : Fin 128) :
    k0_pay4 (iota .tc S128x128 32 [0] iota_S128x128_d0_w32) (Scalar.muli (me c) 2#32) 64#32 k0_pay2 k0_pay3 (ix2 r j)
      = BitVec.ofNat 32 (2 * c.val + r.val / 64) := by
  rw [me_eq]
  pointwise [k0_pay4, k0_pay2, k0_pay3]
  rw [BitVec.ofNat_add]
  refine congrArg (BitVec.ofNat 32 (2 * c.val) + ·) ?_
  revert r
  decide +kernel
/-- The block of a key. -/
theorem pay5_at (r j : Fin 128) :
    k0_pay5 (iota .tc S128x128 32 [1] iota_S128x128_d1_w32) (ix2 r j) = BitVec.ofNat 32 (j.val / 64) := by
  pointwise [k0_pay5]
  revert j
  decide +kernel
/-- The rule of the mask, from the two blocks. -/
theorem pay7_at (A B : IVec S128x128 32) (C : IVec S128x128 1) (i : S128x128.Idx) (n k : Fin 64)
    (hA : A i = BitVec.ofNat 32 n.val) (hB : B i = BitVec.ofNat 32 k.val)
    (hC : C i = IntOp.cmpi .eq (BitVec.ofNat 32 n.val) (BitVec.ofNat 32 k.val)) :
    k0_pay7 A B C 4#32 i = sees n k := by
  pointwise [k0_pay7, hA, hB, hC]
  clear hA hB hC
  revert n k
  decide +kernel
theorem pay6_at (c : Dev nD) (r j : Fin 128) :
    k0_pay6 (iota .tc S128x128 32 [0] iota_S128x128_d0_w32) (iota .tc S128x128 32 [1] iota_S128x128_d1_w32)
        (Scalar.muli (me c) 2#32) 64#32 k0_pay2 k0_pay3 (ix2 r j)
      = IntOp.cmpi .eq (BitVec.ofNat 32 (2 * c.val + r.val / 64)) (BitVec.ofNat 32 (j.val / 64)) := by
  pointwise [k0_pay6]
  rw [pay4_at, pay5_at]
/-- The mask is the rule for the device's rows. -/
theorem maskOf_at (c : Dev nD) (r j : Fin 128) : maskOf c (ix2 r j) = seesKey (2 * c.val + r.val / 64) j :=
  pay7_at _ _ _ (ix2 r j) ⟨2 * c.val + r.val / 64, by have := c.isLt; have := r.isLt; simp only [nD] at *; omega⟩
    ⟨j.val / 64, by have := j.isLt; omega⟩ (pay4_at c r j) (pay5_at r j) (pay6_at c r j)
/-- The greatest of the bits read as numbers is over a half when one of them is set. -/
theorem any_at (f : Fin 128 → BitVec 1) :
    BitVec.ofBool (decide (Ideal.ofBits .f32 0x3F000000#32 < Finset.univ.fold max (Ideal.ofBits .f32 0xFF800000#32)
        fun x => FloatOps.sitofp (F := Ideal) .f32 (BitVec.setWidth 32 (f x))))
      = if ∃ j, f j = 1#1 then 1#1 else 0#1 := by
  have e0 : FloatOps.sitofp (F := Ideal) .f32 (BitVec.setWidth 32 0#1) = (0 : EReal) := by
    show ((((BitVec.setWidth 32 0#1).toInt : ℤ) : ℝ) : EReal) = 0
    rw [show (BitVec.setWidth 32 0#1).toInt = 0 by decide]
    simp
  have e1 : FloatOps.sitofp (F := Ideal) .f32 (BitVec.setWidth 32 1#1) = (1 : EReal) := by
    show ((((BitVec.setWidth 32 1#1).toInt : ℤ) : ℝ) : EReal) = 1
    rw [show (BitVec.setWidth 32 1#1).toInt = 1 by decide]
    simp
  have half : Ideal.ofBits .f32 0x3F000000#32 = ((1 / 2 : ℝ) : EReal) := by
    simp [Ideal.ofBits, Ideal.ieee, -EReal.coe_mul]
    try norm_num
  have bot : Ideal.ofBits .f32 0xFF800000#32 = (⊥ : EReal) := by
    simp [Ideal.ofBits, Ideal.ieee]
  have key : Ideal.ofBits .f32 0x3F000000#32 < Finset.univ.fold max (Ideal.ofBits .f32 0xFF800000#32)
        (fun x => FloatOps.sitofp (F := Ideal) .f32 (BitVec.setWidth 32 (f x))) ↔ ∃ j, f j = 1#1 := by
    rw [Finset.lt_fold_max, bot, half]
    constructor
    · rintro (h | ⟨j, -, h⟩)
      · exact absurd h not_lt_bot
      · refine ⟨j, by_contra fun hf => ?_⟩
        rw [ValueIdx.eq_zero_of_ne_one hf, e0] at h
        exact absurd (EReal.coe_lt_coe_iff.1 h) (by norm_num)
    · rintro ⟨j, h⟩
      refine Or.inr ⟨j, Finset.mem_univ j, ?_⟩
      rw [h, e1]
      exact EReal.coe_lt_coe_iff.2 (by norm_num)
  by_cases h : ∃ j, f j = 1#1
  · rw [if_pos h, decide_eq_true (key.2 h)]; rfl
  · rw [if_neg h, decide_eq_false (fun k => h (key.1 k))]; rfl
/-- A row is kept when it sees a key. -/
theorem keepOf_at (c : Dev nD) (r : Fin 128) :
    keepOf Ideal c (ix2 r 0) = seesAny (2 * c.val + r.val / 64) := by
  pointwise [keepOf, k0_pay8]
  refine (any_at fun j => maskOf c (ix2 r j)).trans ?_
  simp only [maskOf_at]
  rfl

/-! ## A head -/

section
variable (mask : IVec S128x128 1) (keep : IVec S128x1 1) (n : Fin 128 → ℕ)
  (hm : ∀ r j : Fin 128, mask (ix2 r j) = seesKey (n r) j) (hk : ∀ r : Fin 128, keep (ix2 r 0) = seesAny (n r))

include hm hk in
/-- A row of the weights is the row's softmax over the keys it sees. -/
theorem weights_at (q : FVec Ideal S128x64 .f32) (k : FVec Ideal S128x64 .bf16) (r j : Fin 128) :
    weights mask keep q k (ix2 r j) = weight (n r) (fun d => q (ix2 r d)) (fun j d => k (ix2 j d)) j := by
  pointwise [weights, hm, hk]
  rfl
include hm hk in
/-- A row of a head's context. -/
theorem head_at (q : FVec Ideal S128x64 .f32) (k v : FVec Ideal S1x128x64 .bf16) (r : Fin 128) (d : Fin 64) :
    head mask keep q k v (ix2 r d)
      = ctx (n r) (fun d => q (ix2 r d)) (fun j d => k (ix3 0 j d)) (fun j d => v (ix3 0 j d)) d := by
  pointwise [head, weights_at mask keep n hm hk]
  rfl
/-- A row of the queries: the batch's rows follow each other. -/
def row (b : Fin 2) (r : Fin 128) : Fin 256 := ⟨b.val * 128 + r.val, by have := b.isLt; have := r.isLt; omega⟩
/-- A column of a shard: the lanes of its four heads follow each other. -/
def lane (h : Fin 4) (d : Fin 64) : Fin 256 := ⟨h.val * 64 + d.val, by have := h.isLt; have := d.isLt; omega⟩
/-- The head of a column of a shard. -/
def headOf (e : Fin 256) : Fin 4 := ⟨e.val / 64, by have := e.isLt; omega⟩
/-- The lane of a column of a shard. -/
def laneOf (e : Fin 256) : Fin 64 := ⟨e.val % 64, Nat.mod_lt _ (by decide)⟩

/-- Eight blocks put side by side and stacked: a row of four for each batch. -/
def tile (H : Fin 2 → Fin 4 → FVec Ideal S128x64 .f32) : FVec Ideal S256x256 .f32 :=
  concatenate S256x256 0
    [⟨S128x256, concatenate S128x256 1 [⟨S128x64, H 0 0⟩, ⟨S128x64, H 0 1⟩, ⟨S128x64, H 0 2⟩, ⟨S128x64, H 0 3⟩]
      concatenates_S128x64_S128x64_S128x64_S128x64_S128x256_d1⟩,
     ⟨S128x256, concatenate S128x256 1 [⟨S128x64, H 1 0⟩, ⟨S128x64, H 1 1⟩, ⟨S128x64, H 1 2⟩, ⟨S128x64, H 1 3⟩]
      concatenates_S128x64_S128x64_S128x64_S128x64_S128x256_d1⟩]
    concatenates_S128x256_S128x256_S256x256_d0
/-- An element of the tile is that of the block it lies in. -/
theorem tile_at (H : Fin 2 → Fin 4 → FVec Ideal S128x64 .f32) (b : Fin 2) (r : Fin 128) (h : Fin 4) (d : Fin 64) :
    tile H (ix2 (row b r) (lane h d)) = H b h (ix2 r d) := by
  have close : ∀ (b' : Fin 2) (h' : Fin 4) (R : Fin 128) (D : Fin 64), b'.val = b.val → h'.val = h.val →
      R.val = r.val → D.val = d.val → H b' h' (ix2 R D) = H b h (ix2 r d) := by
    intro b' h' R D e1 e2 e3 e4
    rw [Fin.ext e1, Fin.ext e2, Fin.ext e3, Fin.ext e4]
  have rv : (row b r).val = b.val * 128 + r.val := rfl
  have lv : (lane h d).val = h.val * 64 + d.val := rfl
  have := b.isLt
  have := h.isLt
  have := r.isLt
  have := d.isLt
  pointwise [tile]
  generalize_proofs
  split_ifs
  all_goals refine close _ _ _ _ ?_ ?_ ?_ ?_
  all_goals first
    | exact (show (0 : ℕ) = _ by omega)
    | exact (show (1 : ℕ) = _ by omega)
    | exact (show (2 : ℕ) = _ by omega)
    | exact (show (3 : ℕ) = _ by omega)
    | (dsimp only; omega)
theorem cut_q : ∀ (b : Fin 2) (h : Fin 4), S256x256.Slices ![128 * b.val, 64 * h.val] S128x64 := by decide
theorem cut_k : ∀ h : Fin 4, S4x128x64.Slices ![h.val, 0, 0] S1x128x64 := by decide
/-- The context of a chunk is the tile of its heads. -/
theorem context_eq (q : FVec Ideal S256x256 .f32) (k v : Fin 2 → FVec Ideal S4x128x64 .bf16) :
    context mask keep q (k 0) (k 1) (v 0) (v 1) = tile fun b h =>
      head mask keep (extractStridedSlice S128x64 ![128 * b.val, 64 * h.val] q (cut_q b h))
        (extractStridedSlice S1x128x64 ![h.val, 0, 0] (k b) (cut_k h))
        (extractStridedSlice S1x128x64 ![h.val, 0, 0] (v b) (cut_k h)) := rfl

include hm hk in
/-- An element of a chunk's context: its batch's row, its head, its lane. -/
theorem context_at (q : FVec Ideal S256x256 .f32) (k v : Fin 2 → FVec Ideal S4x128x64 .bf16)
    (b : Fin 2) (r : Fin 128) (e : Fin 256) :
    context mask keep q (k 0) (k 1) (v 0) (v 1) (ix2 (row b r) e)
      = ctx (n r) (fun d => q (ix2 (row b r) (lane (headOf e) d))) (fun j d => k b (ix3 (headOf e) j d))
          (fun j d => v b (ix3 (headOf e) j d)) (laneOf e) := by
  have he : e = lane (headOf e) (laneOf e) := Fin.ext (Nat.div_add_mod' e.val 64).symm
  rw [context_eq]
  refine (congrArg (fun e => tile _ (ix2 (row b r) e)) he).trans ?_
  rw [tile_at]
  pointwise [head_at mask keep n hm hk]
  exact congrArg (fun f => ctx (n r) f _ _ _) (funext fun d => congrArg₂ (fun i j => q (ix2 i j))
    (Fin.ext (congrArg (· + r.val) (Nat.mul_comm 128 b.val))) (Fin.ext (congrArg (· + d.val) (Nat.mul_comm 64 _))))
end
/-- The queries of a chunk are rows of the input times columns of the shard. -/
theorem queries_at (x : FVec Ideal S256x512 .bf16) (w : Vec Ideal S1x512x256 .bf16) (R e : Fin 256) :
    queries x w (ix2 R e) = ∑ p : Fin 512, x (ix2 R p) * w (ix3 0 p e) := by
  pointwise [queries]

/-! ## A chunk -/

/-- A slot of the weights' stacks holds the shard as it was. -/
theorem shardQ_at (w : Vec Ideal S512x256 .bf16) (p : Fin 512) (e : Fin 256) : shardQ w (ix3 0 p e) = w (ix2 p e) := by
  pointwise [shardQ, k0_pay9, k0_pay10]
theorem shardO_at (w : Vec Ideal S256x512 .bf16) (e : Fin 256) (n : Fin 512) : shardO w (ix3 0 e n) = w (ix2 e n) := by
  pointwise [shardO, k0_pay11]
theorem pay1_at (x : Vec Ideal S2x128x512 .bf16) (b : Fin 2) (r : Fin 128) (p : Fin 512) :
    k0_pay1 x (ix2 (row b r) p) = x (ix3 b r p) := by
  pointwise [k0_pay1]
  have := r.isLt
  exact congrArg x (congrArg₂ (fun b r => ix3 b r p) (Fin.ext (by show (b.val * 128 + r.val) / 128 = b.val; omega))
    (Fin.ext (by show (b.val * 128 + r.val) % 128 = r.val; omega)))
theorem pay12_at (b : Fin 2) (r : Fin 128) (n : Fin 512) : k0_pay12 (F := Ideal) (ix3 b r n) = 0 := by
  pointwise [k0_pay12]
/-- The four heads of a chunk are those of its device. -/
theorem headsAt_at (b : Fin 2) (s : Dev nD) (X : Vec Ideal S2x128x128x64 .bf16) (h : Fin 4) (j : Fin 128) (d : Fin 64) :
    headsAt b s X (ix4 0 h j d)
      = X (ix4 b ⟨4 * s.val + h.val, by have := s.isLt; have := h.isLt; simp only [nD] at *; omega⟩ j d) := by
  refine congrArg X (funext fun a => Fin.ext ?_)
  rw [Rect.emb_apply]
  fin_cases a <;> simp [rH]
/-- A term of the device's result: one chunk's product at an index. -/
def term (wq : Dev nD → Vec Ideal S512x256 .bf16) (wo : Dev nD → Vec Ideal S256x512 .bf16) (c : Dev nD)
    (x : Vec Ideal S2x128x512 .bf16) (K V : Vec Ideal S2x128x128x64 .bf16) (b : Fin 2) (r : Fin 128) (n : Fin 512)
    (s : Dev nD) : EReal :=
  ∑ e : Fin 256, ctx (2 * c.val + r.val / 64)
      (fun d => ∑ p : Fin 512, x (ix3 b r p) * wq s (ix2 p (lane (headOf e) d)))
      (fun j d => K (ix4 b ⟨4 * s.val + (headOf e).val, by have := s.isLt; have := (headOf e).isLt; simp only [nD] at *; omega⟩ j d))
      (fun j d => V (ix4 b ⟨4 * s.val + (headOf e).val, by have := s.isLt; have := (headOf e).isLt; simp only [nD] at *; omega⟩ j d))
      (laneOf e) * wo s (ix2 e n)

section
variable (wq : Dev nD → Vec Ideal S512x256 .bf16) (wo : Dev nD → Vec Ideal S256x512 .bf16) (c : Dev nD)
  (x : Vec Ideal S2x128x512 .bf16) (K V : Vec Ideal S2x128x128x64 .bf16) (b : Fin 2) (r : Fin 128) (n : Fin 512)

/-- A chunk adds one term at each index of the accumulator. -/
theorem step_at (s : Dev nD) (g : Vec Ideal S2x128x512 .f32) :
    step wq wo c (k0_pay1 x) K V s g (ix3 b r n) = g (ix3 b r n) + term wq wo c x K V b r n s := by
  pointwise [step, chunkVal]
  refine congrArg (g (ix3 b r n) + ·) (Finset.sum_congr rfl fun e _ => ?_)
  have := context_at (maskOf c) (keepOf Ideal c) (fun r => 2 * c.val + r.val / 64) (maskOf_at c) (keepOf_at c)
    (queries (k0_pay1 x) (shardQ (wq s))) (fun b => shapeCast S4x128x64 (headsAt b s K) shapeCasts_S1x4x128x64_S4x128x64)
    (fun b => shapeCast S4x128x64 (headsAt b s V) shapeCasts_S1x4x128x64_S4x128x64) b r e
  refine congrArg₂ (· * ·) (this.trans ?_) (shardO_at _ _ _)
  simp only [queries_at, pay1_at, shardQ_at]
  refine congrArg₂ (fun k v => ctx _ _ k v _) (funext fun j => funext fun d => ?_) (funext fun j => funext fun d => ?_)
  · pointwise [headsAt_at]
  · pointwise [headsAt_at]

/-! ## The sum over the ring -/

theorem swap4 (A B P N : EReal) : A + B + P + N = A + P + (B + N) := by
  rw [add_right_comm A B P, add_assoc]
/-- The accumulator after a hop: the terms that came forwards and those that came backwards. -/
theorem accs_at (a : ℕ) : accs wq wo c (k0_pay1 x) K V a (ix3 b r n)
    = (∑ h ∈ Finset.range (a + 1), term wq wo c x K V b r n (pos true c h))
      + ∑ h ∈ Finset.range a, term wq wo c x K V b r n (pos false c (h + 1)) := by
  induction a with
  | zero => rw [accs, step_at, pay12_at]; simp
  | succ a ih =>
    rw [accs, step_at, step_at, ih, Finset.sum_range_succ (fun h => term wq wo c x K V b r n (pos true c h)) (a + 1),
      Finset.sum_range_succ (fun h => term wq wo c x K V b r n (pos false c (h + 1))) a]
    exact swap4 _ _ _ _
/-- Where the chunks of a device come from: each device once. -/
def origin : Fin 17 ⊕ Fin 15 → Dev nD
  | .inl h => pos true c h.val
  | .inr h => pos false c (h.val + 1)
/-- No device's chunk is missed and none is counted twice. -/
theorem origin_bij : Function.Bijective (origin c) := by
  refine (Fintype.bijective_iff_injective_and_card _).2 ⟨?_, rfl⟩
  intro u v
  revert c u v
  decide +kernel
/-- The result at an index is the sum of one term from each device. -/
theorem outV_at : outV wq wo c x K V (ix3 b r n) = ∑ s : Fin 32, term wq wo c x K V b r n s := by
  show accEnd wq wo c (k0_pay1 x) K V (ix3 b r n) = _
  rw [accEnd, step_at, accs_at, ← (origin_bij c).sum_comp, Fintype.sum_sum_type, Finset.sum_range, Finset.sum_range,
    Fin.sum_univ_castSucc (n := 16)]
  show _ = (∑ h : Fin 16, term wq wo c x K V b r n (pos true c h.val) + term wq wo c x K V b r n (pos true c 16))
    + ∑ h : Fin 15, term wq wo c x K V b r n (pos false c (h.val + 1))
  exact add_right_comm _ _ _
end

end Cert.KernelIdeal.Ring

end
-- ==== Proof.Value.lean ====
/- The value: the kernel's results, put together over the devices, are the reference's. -/
module

public import proofs.«01_k».proof.Defs
public import proofs.«01_k».proof.Proof.Run
public import proofs.«01_k».proof.Proof.KerValue
public import Idealize.ShloMosaic.Lib.LayoutAt
public import Idealize.ShloMosaic.Lib.StableHlo.RunRead

@[expose] public section

noncomputable section

namespace Cert.Proof

open Idealize.ShloMosaic Idealize.ShloMosaic.TcCoe Idealize.SL.Sem
open Cert.KernelIdeal Cert.KernelIdeal.Gen Cert.KernelIdeal.Ring
open Cert.Row
open Cert.ReferenceIdeal.Value (whole whole_at col hd ln)

/-! ## Where a block's elements are in the whole -/

/-- A row of the whole input: the devices' rows follow each other. -/
def rowAt (c : Fin 32) (r : Fin 128) : Fin 4096 := ⟨c.val * 128 + r.val, by have := c.isLt; have := r.isLt; omega⟩
/-- A column of the whole weights: the devices' columns follow each other. -/
def colAt (s : Fin 32) (e : Fin 256) : Fin 8192 := ⟨s.val * 256 + e.val, by have := s.isLt; have := e.isLt; omega⟩

theorem block_rows {α : Type} (c : Fin 32) (x : (⟨3, ![2, 4096, 512]⟩ : Shape).Idx → α) (b : Fin 2) (r : Fin 128) (p : Fin 512) :
    Layout.block ⟨3, ![2, 128, 512]⟩ ⟨3, ![2, 4096, 512]⟩ 1 32 c x (by decide) (ix3 b r p) = x (ix3 b (rowAt c r) p) := by
  refine congrArg x (funext fun a => Fin.ext ?_)
  fin_cases a <;> rfl
theorem block_cols {α : Type} (s : Fin 32) (w : (⟨2, ![512, 8192]⟩ : Shape).Idx → α) (p : Fin 512) (e : Fin 256) :
    Layout.block ⟨2, ![512, 256]⟩ ⟨2, ![512, 8192]⟩ 1 32 s w (by decide) (ix2 p e) = w (ix2 p (colAt s e)) := by
  refine congrArg w (funext fun a => Fin.ext ?_)
  fin_cases a <;> rfl
theorem block_outs {α : Type} (s : Fin 32) (w : (⟨2, ![8192, 512]⟩ : Shape).Idx → α) (e : Fin 256) (n : Fin 512) :
    Layout.block ⟨2, ![256, 512]⟩ ⟨2, ![8192, 512]⟩ 0 32 s w (by decide) (ix2 e n) = w (ix2 (colAt s e) n) := by
  refine congrArg w (funext fun a => Fin.ext ?_)
  fin_cases a <;> rfl

/-- A sum over the whole's columns is a sum over the devices of sums over their columns. -/
theorem sum_cols (f : Fin 8192 → EReal) : ∑ e : Fin 8192, f e = ∑ s : Fin 32, ∑ e : Fin 256, f (colAt s e) := by
  rw [← Fintype.sum_prod_type' (fun (s : Fin 32) (e : Fin 256) => f (colAt s e))]
  refine (Equiv.sum_comp (finProdFinEquiv (m := 32) (n := 256)) f).symm.trans (Finset.sum_congr rfl fun u _ => congrArg f (Fin.ext ?_))
  show u.2.val + 256 * u.1.val = u.1.val * 256 + u.2.val
  omega

theorem rowAt_div (c : Fin 32) (r : Fin 128) : (rowAt c r).val / 64 = 2 * c.val + r.val / 64 := by
  show (c.val * 128 + r.val) / 64 = _
  omega
theorem ln_colAt (s : Fin 32) (e : Fin 256) : ln (colAt s e) = laneOf e :=
  Fin.ext (by show (s.val * 256 + e.val) % 64 = e.val % 64; omega)
theorem hd_colAt (s : Fin 32) (e : Fin 256) :
    hd (colAt s e) = ⟨4 * s.val + (headOf e).val, by have := s.isLt; have := (headOf e).isLt; omega⟩ :=
  Fin.ext (by show (s.val * 256 + e.val) / 64 = 4 * s.val + e.val / 64; omega)
theorem col_colAt (s : Fin 32) (e : Fin 256) (d : Fin 64) : col (hd (colAt s e)) d = colAt s (lane (headOf e) d) :=
  Fin.ext (by show (s.val * 256 + e.val) / 64 * 64 + d.val = s.val * 256 + (e.val / 64 * 64 + d.val); omega)

/-! ## A device's result -/

section
variable (m : (ℓ : Loc nD τ sig) → Buf (Elt Ideal) ℓ)

theorem wk_at (c : Dev nD) (b : Fin 2) (h j : Fin 128) (d : Fin 64) :
    wk m c (ix4 b h j d) = (m ((c.tc : Thread nD τ).loc main_arg2) : S2x128x128x64.Idx → EReal) (ix4 b j h d) := by
  have e : wk m c = transpose S2x128x128x64 [0, 2, 1, 3] (m ((c.tc : Thread nD τ).loc main_arg2))
      transposes_S2x128x128x64_S2x128x128x64_0_2_1_3 := by
    unfold wk
    after_reads_simp
  rw [e]
  pointwise
theorem wv_at (c : Dev nD) (b : Fin 2) (h j : Fin 128) (d : Fin 64) :
    wv m c (ix4 b h j d) = (m ((c.tc : Thread nD τ).loc main_arg3) : S2x128x128x64.Idx → EReal) (ix4 b j h d) := by
  have e : wv m c = transpose S2x128x128x64 [0, 2, 1, 3] (m ((c.tc : Thread nD τ).loc main_arg3))
      transposes_S2x128x128x64_S2x128x128x64_0_2_1_3 := by
    unfold wv
    after_reads_simp
  rw [e]
  pointwise

/-- A device's result is its block of the whole computation. -/
theorem res_at (x : FVec Ideal Cert.ReferenceIdeal.S2x4096x512 .bf16) (q : FVec Ideal Cert.ReferenceIdeal.S512x8192 .bf16) (k v : FVec Ideal S2x128x128x64 .bf16)
    (o : FVec Ideal Cert.ReferenceIdeal.S8192x512 .bf16)
    (hx : ∀ c : Dev nD, wx m c = Layout.block ⟨3, ![2, 128, 512]⟩ ⟨3, ![2, 4096, 512]⟩ 1 32 c x)
    (hq : ∀ c : Dev nD, wq m c = Layout.block ⟨2, ![512, 256]⟩ ⟨2, ![512, 8192]⟩ 1 32 c q)
    (hk : ∀ c : Dev nD, m ((c.tc : Thread nD τ).loc main_arg2) = k)
    (hv : ∀ c : Dev nD, m ((c.tc : Thread nD τ).loc main_arg3) = v)
    (ho : ∀ c : Dev nD, wo m c = Layout.block ⟨2, ![256, 512]⟩ ⟨2, ![8192, 512]⟩ 0 32 c o)
    (c : Dev nD) :
    res m c = Layout.block ⟨3, ![2, 128, 512]⟩ ⟨3, ![2, 4096, 512]⟩ 1 32 c (whole x q k v o) := by
  funext i
  obtain ⟨b, r, n, rfl⟩ : ∃ b r n, i = ix3 b r n := ⟨_, _, _, ValueIdx.eq_ix3 i⟩
  refine (outV_at (wq m) (wo m) c (wx m c) (wk m c) (wv m c) b r n).trans ?_
  refine Eq.trans ?_ (block_rows c (whole x q k v o) b r n).symm
  rw [whole_at, sum_cols]
  refine Finset.sum_congr rfl fun s _ => Finset.sum_congr rfl fun e _ => ?_
  rw [rowAt_div, ln_colAt]
  refine congrArg₂ (· * ·) ?_ ((congrFun (ho s) _).trans (block_outs s o e n))
  have e1 : ∀ d : Fin 64, (∑ p : Fin 512, wx m c (ix3 b r p) * wq m s (ix2 p (lane (headOf e) d)))
      = ∑ p : Fin 512, x (ix3 b (rowAt c r) p) * q (ix2 p (col (hd (colAt s e)) d)) := fun d =>
    Finset.sum_congr rfl fun p _ => by
      rw [col_colAt]
      exact congrArg₂ (· * ·) ((congrFun (hx c) _).trans (block_rows c x b r p))
        ((congrFun (hq s) _).trans (block_cols s q p _))
  have e2 : ∀ (j : Fin 128) (d : Fin 64), wk m c (ix4 b ⟨4 * s.val + (headOf e).val, by have := s.isLt; have := (headOf e).isLt; omega⟩ j d)
      = k (ix4 b j (hd (colAt s e)) d) := fun j d => by
    rw [wk_at, hk, hd_colAt]
  have e3 : ∀ (j : Fin 128) (d : Fin 64), wv m c (ix4 b ⟨4 * s.val + (headOf e).val, by have := s.isLt; have := (headOf e).isLt; omega⟩ j d)
      = v (ix4 b j (hd (colAt s e)) d) := fun j d => by
    rw [wv_at, hv, hd_colAt]
  simp only [e1, e2, e3]
end

/-- The kernel's results on the devices are the blocks of the reference's result. -/
theorem algebraic : Cert.algebraic_KernelIdeal_ReferenceIdeal := by
  intro m g m' g' _ h
  refine ⟨Cert.ReferenceIdeal.Value.res_main_v48 (F := Ideal) m' 0, ?_, ?_⟩
  · refine (θ_run Cert.KernelIdeal.defs _ _).mono (fun r hr c => ⟨((hr.1 c).2.trans ?_), (hr.1 c).1⟩) (run_main (F := Ideal) m g)
    rw [Cert.ReferenceIdeal.Value.res_eq]
    exact res_at m _ _ _ _ _ (fun c => (V_main_arg0 m c).trans (h c).1) (fun c => (V_main_arg1 m c).trans (h c).2.1)
      (fun c => (h c).2.2.1) (fun c => (h c).2.2.2.1) (fun c => (V_main_arg4 m c).trans (h c).2.2.2.2) c
  · exact (θ_run Cert.ReferenceIdeal.defs _ _).mono (fun r hr => hr 0) (Cert.ReferenceIdeal.Value.run (F := Ideal) m' g')

end Cert.Proof

end
-- ==== Proof.lean ====
module

public import proofs.«01_k».proof.Defs
public import proofs.«01_k».proof.Proof.Frames
public import proofs.«01_k».proof.Proof.Value

@[expose] public section

noncomputable section

namespace Cert.Proof

open Idealize.ShloMosaic Idealize.SL.Sem Cert.Kernel

/-- The whole claim. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
